-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite [hPre_finite : Cert.Pre_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite [hReference6Ideal : Cert.Reference6Ideal.Facts] [hPre_finite : Cert.Pre_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  True

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)) (v3 : (c : Dev Cert.Kernel4Ideal.nD) → Buf (Elt Ideal) ((c.tc : Thread Cert.Kernel4Ideal.nD Cert.Kernel4Ideal.τ).loc Cert.Kernel4Ideal.main_v7_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_v7_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_v27) = v2 c
          ∧ r.2.mem ((c.tc : Thread Cert.Reference4Ideal.nD Cert.Reference4Ideal.τ).loc Cert.Reference4Ideal.main_v28) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite [hKernel6Ideal : Cert.Kernel6Ideal.Facts] [hReference6Ideal : Cert.Reference6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v17_0)) (v1 : (c : Dev Cert.Kernel7Ideal.nD) → Buf (Elt Ideal) ((c.tc : Thread Cert.Kernel7Ideal.nD Cert.Kernel7Ideal.τ).loc Cert.Kernel7Ideal.main_v17_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v17_0) = v0 c
          ∧ r.2.mem ((c.tc : Thread Cert.Kernel7Ideal.nD Cert.Kernel7Ideal.τ).loc Cert.Kernel7Ideal.main_v17_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v33) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_routed : Cert.Pre_routed.Facts) (hPre_finite : Cert.Pre_finite.Facts),
    quiescent_Kernel (hKernel := hKernel)
    ∧ quiescent_KernelIdeal (hKernelIdeal := hKernelIdeal)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite (hKernel6Ideal := hKernel6Ideal) (hPre_finite := hPre_finite)
    ∧ quiescent_Reference6Ideal (hReference6Ideal := hReference6Ideal)
    ∧ quiescent_Reference6Ideal_pre_finite (hReference6Ideal := hReference6Ideal) (hPre_finite := hPre_finite)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_routed (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite (hKernel6Ideal := hKernel6Ideal) (hReference6Ideal := hReference6Ideal) (hPre_finite := hPre_finite)
    ∧ preserves_Kernel7_Kernel7Ideal
    ∧ algebraic_Kernel7Ideal_Reference7Ideal (hKernel7Ideal := hKernel7Ideal) (hReference7Ideal := hReference7Ideal)
-- ==== Pre_finite.lean ====
abbrev S8192x768 : Shape := ⟨2, ![8192, 768]⟩
abbrev S_ : Shape := ⟨0, ![]⟩

class Facts : Prop where
  bitsLt_bf16_f32 : FTy.bits .bf16 < FTy.bits .f32
  bcast_S_S8192x768 : S_.BroadcastsInDim S8192x768 (![] : Fin 0 → Fin S8192x768.rank)
  reducesTo_S8192x768_S_d0_1 : S8192x768.ReducesTo [0, 1] S_
  h_S_ : 0 < S_.numel

variable [Facts]

def fn {F : FTy → Type} [FloatOps F] (main_arg0 : FVec F S8192x768 .bf16) (main_arg1 : FVec F S8192x768 .f32) (main_arg2 : FVec F S8192x768 .f32) : IVec S_ 1 :=
  let main_v0 : FVec F S8192x768 .f32 := (extf .f32 · bitsLt_bf16_f32) main_arg0
  let main_v1 : FVec F S8192x768 .f32 := Host.absf main_v0
  let main_cst : FVec F S_ .f32 := constant S_ .f32 0x7F800000#32
  let main_v2 : FVec F S8192x768 .f32 := broadcastInDim S8192x768 ![] bcast_S_S8192x768 main_cst
  let main_v3 : IVec S8192x768 1 := cmpf .olt main_v1 main_v2
  let main_c : IVec S_ 1 := constantI S_ 1 1#1
  let main_v4 : IVec S_ 1 := (fun x v => Host.reduce IntOp.andi x v reducesTo_S8192x768_S_d0_1 h_S_) main_v3 main_c
  let main_v5 : FVec F S8192x768 .f32 := Host.absf main_arg1
  let main_cst_0 : FVec F S_ .f32 := constant S_ .f32 0x7F800000#32
  let main_v6 : FVec F S8192x768 .f32 := broadcastInDim S8192x768 ![] bcast_S_S8192x768 main_cst_0
  let main_v7 : IVec S8192x768 1 := cmpf .olt main_v5 main_v6
  let main_c_1 : IVec S_ 1 := constantI S_ 1 1#1
  let main_v8 : IVec S_ 1 := (fun x v => Host.reduce IntOp.andi x v reducesTo_S8192x768_S_d0_1 h_S_) main_v7 main_c_1
  let main_v9 : IVec S_ 1 := andi main_v4 main_v8
  main_v9
-- ==== Pre_routed.lean ====
abbrev S8192x1024 : Shape := ⟨2, ![8192, 1024]⟩
abbrev S8192x128 : Shape := ⟨2, ![8192, 128]⟩
abbrev S16x8x512 : Shape := ⟨3, ![16, 8, 512]⟩
abbrev S16x8x128 : Shape := ⟨3, ![16, 8, 128]⟩
abbrev S1x1x1024 : Shape := ⟨3, ![1, 1, 1024]⟩
abbrev S1024 : Shape := ⟨1, ![1024]⟩
abbrev S1x8x1024x1408 : Shape := ⟨4, ![1, 8, 1024, 1408]⟩
abbrev S1x8x1408x1024 : Shape := ⟨4, ![1, 8, 1408, 1024]⟩
abbrev S16x512x128 : Shape := ⟨3, ![16, 512, 128]⟩
abbrev S16x512x8 : Shape := ⟨3, ![16, 512, 8]⟩
abbrev S_ : Shape := ⟨0, ![]⟩
abbrev S16x1x8 : Shape := ⟨3, ![16, 1, 8]⟩
abbrev S16x8 : Shape := ⟨2, ![16, 8]⟩
abbrev S16x8x1 : Shape := ⟨3, ![16, 8, 1]⟩

class Facts : Prop where
  shapeCasts_S8192x128_S16x512x128 : S8192x128.ShapeCasts S16x512x128
  slices_S16x512x128_S16x512x8_0_0_0 : S16x512x128.Slices ![0, 0, 0] S16x512x8
  transposes_S16x512x8_S16x8x512_0_2_1 : S16x512x8.Transposes [0, 2, 1] S16x8x512
  bcast_S_S16x8x512 : S_.BroadcastsInDim S16x8x512 (![] : Fin 0 → Fin S16x8x512.rank)
  bcast_S_S_ : S_.BroadcastsInDim S_ (![] : Fin 0 → Fin S_.rank)
  reduceWindows_S16x8x512_S16x8x512_w1s1p0_0_w1s1p0_0_w512s1p511_0 : S16x8x512.ReduceWindows (![1, 1, 512] : Fin 3 → Nat) ![1, 1, 1] ![0, 0, 511] ![0, 0, 0] S16x8x512
  h_S_ : 0 < S_.numel
  slices_S16x8x128_S16x1x8_0_0_0 : S16x8x128.Slices ![0, 0, 0] S16x1x8
  shapeCasts_S16x1x8_S16x8 : S16x1x8.ShapeCasts S16x8
  bcast_S16x8_S16x8x1_0_1 : S16x8.BroadcastsInDim S16x8x1 (![0, 1] : Fin 2 → Fin S16x8x1.rank)
  slices_S16x8x512_S16x8x1_0_0_511 : S16x8x512.Slices ![0, 0, 511] S16x8x1
  bcast_S16x8x1_S16x8x512_0_1_2 : S16x8x1.BroadcastsInDim S16x8x512 (![0, 1, 2] : Fin 3 → Fin S16x8x512.rank)

variable [Facts]

def fn_where {F : FTy → Type} [FloatOps F] (arg0 : IVec S16x8x512 1) (arg1 : FVec F S_ .f32) (arg2 : FVec F S_ .f32) : FVec F S16x8x512 .f32 :=
  let v0 : FVec F S16x8x512 .f32 := broadcastInDim S16x8x512 ![] bcast_S_S16x8x512 arg1
  let v1 : FVec F S16x8x512 .f32 := broadcastInDim S16x8x512 ![] bcast_S_S16x8x512 arg2
  let v2 : FVec F S16x8x512 .f32 := select arg0 v0 v1
  v2

def fn_cumsum_0 {F : FTy → Type} [FloatOps F] (arg0 : FVec F S16x8x512 .f32) : FVec F S16x8x512 .f32 :=
  let cst : FVec F S_ .f32 := constant S_ .f32 0x00000000#32
  let v0 : FVec F S_ .f32 := broadcastInDim S_ ![] bcast_S_S_ cst
  let v1 : FVec F S16x8x512 .f32 := (fun x v => Host.reduceWindowAdd ![1, 1, 512] ![1, 1, 1] ![0, 0, 511] ![0, 0, 0] x v reduceWindows_S16x8x512_S16x8x512_w1s1p0_0_w1s1p0_0_w512s1p511_0 h_S_) arg0 v0
  v1

def fn_cumsum {F : FTy → Type} [FloatOps F] (arg0 : FVec F S16x8x512 .f32) : FVec F S16x8x512 .f32 :=
  let v0 : FVec F S16x8x512 .f32 := id arg0
  let v1 : FVec F S16x8x512 .f32 := fn_cumsum_0 (F := F) v0
  v1

def fn_where_1 {F : FTy → Type} [FloatOps F] (arg0 : IVec S16x8x512 1) (arg1 : FVec F S16x8x512 .f32) (arg2 : FVec F S_ .f32) : FVec F S16x8x512 .f32 :=
  let v0 : FVec F S_ .f32 := id arg2
  let v1 : FVec F S16x8x512 .f32 := broadcastInDim S16x8x512 ![] bcast_S_S16x8x512 v0
  let v2 : FVec F S16x8x512 .f32 := select arg0 arg1 v1
  v2

def fn_part1 {F : FTy → Type} [FloatOps F] (main_v5 : FVec F S16x8x512 .f32) (main_v7 : IVec S16x8x512 1) (main_v9 : FVec F S16x8x512 .f32) (main_v15 : IVec S16x8x512 1) (main_v18 : FVec F S16x8x1 .f32) : IVec S16x8x512 1 :=
  let main_v19 : FVec F S16x8x1 .f32 := (extractStridedSlice S16x8x1 ![0, 0, 511] · slices_S16x8x512_S16x8x1_0_0_511) main_v9
  let main_v20 : IVec S16x8x1 1 := cmpf .oeq main_v18 main_v19
  let main_v21 : IVec S16x8x512 1 := broadcastInDim S16x8x512 ![0, 1, 2] bcast_S16x8x1_S16x8x512_0_1_2 main_v20
  let main_v22 : IVec S16x8x512 1 := andi main_v15 main_v21
  let main_cst_4 : FVec F S_ .f32 := constant S_ .f32 0x00000000#32
  let main_v23 : FVec F S16x8x512 .f32 := broadcastInDim S16x8x512 ![] bcast_S_S16x8x512 main_cst_4
  let main_v24 : IVec S16x8x512 1 := cmpf .oeq main_v5 main_v23
  let main_v25 : IVec S16x8x512 1 := ori main_v7 main_v24
  let main_v26 : IVec S16x8x512 1 := andi main_v22 main_v25
  main_v26

def fn {F : FTy → Type} [FloatOps F] (main_arg0 : FVec F S8192x1024 .f32) (main_arg1 : FVec F S8192x1024 .bf16) (main_arg2 : FVec F S8192x128 .f32) (main_arg3 : FVec F S8192x128 .f32) (main_arg4 : FVec F S16x8x512 .f32) (main_arg5 : FVec F S16x8x128 .f32) (main_arg6 : FVec F S1x1x1024 .f32) (main_arg7 : FVec F S1024 .f32) (main_arg8 : FVec F S1x8x1024x1408 .f32) (main_arg9 : FVec F S1x8x1024x1408 .f32) (main_arg10 : FVec F S1x8x1408x1024 .f32) : IVec S16x8x512 1 :=
  let main_v0 : FVec F S16x512x128 .f32 := shapeCast S16x512x128 main_arg3 shapeCasts_S8192x128_S16x512x128
  let main_v1 : FVec F S16x512x8 .f32 := (extractStridedSlice S16x512x8 ![0, 0, 0] · slices_S16x512x128_S16x512x8_0_0_0) main_v0
  let main_v2 : FVec F S16x8x512 .f32 := (transpose S16x8x512 [0, 2, 1] · transposes_S16x512x8_S16x8x512_0_2_1) main_v1
  let main_v3 : FVec F S16x512x128 .f32 := shapeCast S16x512x128 main_arg2 shapeCasts_S8192x128_S16x512x128
  let main_v4 : FVec F S16x512x8 .f32 := (extractStridedSlice S16x512x8 ![0, 0, 0] · slices_S16x512x128_S16x512x8_0_0_0) main_v3
  let main_v5 : FVec F S16x8x512 .f32 := (transpose S16x8x512 [0, 2, 1] · transposes_S16x512x8_S16x8x512_0_2_1) main_v4
  let main_cst : FVec F S_ .f32 := constant S_ .f32 0x00000000#32
  let main_v6 : FVec F S16x8x512 .f32 := broadcastInDim S16x8x512 ![] bcast_S_S16x8x512 main_cst
  let main_v7 : IVec S16x8x512 1 := cmpf .oge main_v2 main_v6
  let main_cst_0 : FVec F S_ .f32 := constant S_ .f32 0x3F800000#32
  let main_cst_1 : FVec F S_ .f32 := constant S_ .f32 0x00000000#32
  let main_v8 : FVec F S16x8x512 .f32 := fn_where (F := F) main_v7 main_cst_0 main_cst_1
  let main_v9 : FVec F S16x8x512 .f32 := fn_cumsum (F := F) main_v8
  let main_cst_2 : FVec F S_ .f32 := constant S_ .f32 0x3F800000#32
  let main_v10 : FVec F S16x8x512 .f32 := broadcastInDim S16x8x512 ![] bcast_S_S16x8x512 main_cst_2
  let main_v11 : FVec F S16x8x512 .f32 := subf main_v9 main_v10
  let main_cst_3 : FVec F S_ .f32 := constant S_ .f32 0xBF800000#32
  let main_v12 : FVec F S16x8x512 .f32 := fn_where_1 (F := F) main_v7 main_v11 main_cst_3
  let main_v13 : IVec S16x8x512 1 := cmpf .oeq main_v2 main_v12
  let main_v14 : IVec S16x8x512 1 := cmpf .oeq main_arg4 main_v2
  let main_v15 : IVec S16x8x512 1 := andi main_v13 main_v14
  let main_v16 : FVec F S16x1x8 .f32 := (extractStridedSlice S16x1x8 ![0, 0, 0] · slices_S16x8x128_S16x1x8_0_0_0) main_arg5
  let main_v17 : FVec F S16x8 .f32 := shapeCast S16x8 main_v16 shapeCasts_S16x1x8_S16x8
  let main_v18 : FVec F S16x8x1 .f32 := broadcastInDim S16x8x1 ![0, 1] bcast_S16x8_S16x8x1_0_1 main_v17
  fn_part1 (F := F) main_v5 main_v7 main_v9 main_v15 main_v18
-- ==== Kernel.lean ====
abbrev S8192x1024 : Shape := ⟨2, ![8192, 1024]⟩
abbrev S8192x128 : Shape := ⟨2, ![8192, 128]⟩
abbrev S16x8x512 : Shape := ⟨3, ![16, 8, 512]⟩
abbrev S16x8x128 : Shape := ⟨3, ![16, 8, 128]⟩
abbrev S1x1x1024 : Shape := ⟨3, ![1, 1, 1024]⟩
abbrev S1024 : Shape := ⟨1, ![1024]⟩
abbrev S1x8x1024x1408 : Shape := ⟨4, ![1, 8, 1024, 1408]⟩
abbrev S1x8x1408x1024 : Shape := ⟨4, ![1, 8, 1408, 1024]⟩
abbrev S8x1024x1408 : Shape := ⟨3, ![8, 1024, 1408]⟩
abbrev S8x1408x1024 : Shape := ⟨3, ![8, 1408, 1024]⟩
abbrev S16x1x8 : Shape := ⟨3, ![16, 1, 8]⟩
abbrev S16x8 : Shape := ⟨2, ![16, 8]⟩
abbrev S128 : Shape := ⟨1, ![128]⟩
abbrev S1x1024 : Shape := ⟨2, ![1, 1024]⟩
abbrev S1024x1024 : Shape := ⟨2, ![1024, 1024]⟩
abbrev S1024x128 : Shape := ⟨2, ![1024, 128]⟩
abbrev S2x8x512 : Shape := ⟨3, ![2, 8, 512]⟩
abbrev S1x1024x1408 : Shape := ⟨3, ![1, 1024, 1408]⟩
abbrev S1x1408x1024 : Shape := ⟨3, ![1, 1408, 1024]⟩
abbrev S512x128 : Shape := ⟨2, ![512, 128]⟩
abbrev S128x512 : Shape := ⟨2, ![128, 512]⟩
abbrev S1 : Shape := ⟨1, ![1]⟩
abbrev S1x1x512 : Shape := ⟨3, ![1, 1, 512]⟩
abbrev S1x512 : Shape := ⟨2, ![1, 512]⟩
abbrev S512x1024 : Shape := ⟨2, ![512, 1024]⟩
abbrev S128x1024 : Shape := ⟨2, ![128, 1024]⟩
abbrev S1024x1408 : Shape := ⟨2, ![1024, 1408]⟩
abbrev S128x1408 : Shape := ⟨2, ![128, 1408]⟩
abbrev S1408x1024 : Shape := ⟨2, ![1408, 1024]⟩
abbrev S512 : Shape := ⟨1, ![512]⟩
abbrev S512x1 : Shape := ⟨2, ![512, 1]⟩
abbrev S1024x1 : Shape := ⟨2, ![1024, 1]⟩

abbrev nBuf : Space → Nat
  | .hbm => 22
  | .vmem => 22
  | .smem => 1
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x128, .f32⟩
  | .hbm, ⟨3, _⟩ => ⟨S8192x128, .f32⟩
  | .hbm, ⟨4, _⟩ => ⟨S16x8x512, .f32⟩
  | .hbm, ⟨5, _⟩ => ⟨S16x8x128, .f32⟩
  | .hbm, ⟨6, _⟩ => ⟨S1x1x1024, .f32⟩
  | .hbm, ⟨7, _⟩ => ⟨S1024, .f32⟩
  | .hbm, ⟨8, _⟩ => ⟨S1x8x1024x1408, .f32⟩
  | .hbm, ⟨9, _⟩ => ⟨S1x8x1024x1408, .f32⟩
  | .hbm, ⟨10, _⟩ => ⟨S1x8x1408x1024, .f32⟩
  | .hbm, ⟨11, _⟩ => ⟨S8x1024x1408, .f32⟩
  | .hbm, ⟨12, _⟩ => ⟨S8x1024x1408, .bf16⟩
  | .hbm, ⟨13, _⟩ => ⟨S8x1024x1408, .f32⟩
  | .hbm, ⟨14, _⟩ => ⟨S8x1024x1408, .bf16⟩
  | .hbm, ⟨15, _⟩ => ⟨S8x1408x1024, .f32⟩
  | .hbm, ⟨16, _⟩ => ⟨S8x1408x1024, .bf16⟩
  | .hbm, ⟨17, _⟩ => ⟨S16x1x8, .f32⟩
  | .hbm, ⟨18, _⟩ => ⟨S16x8, .f32⟩
  | .hbm, ⟨19, _⟩ => ⟨S16x8, .i32⟩
  | .hbm, ⟨20, _⟩ => ⟨S1x1024, .f32⟩
  | .hbm, ⟨21, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S2x8x512, .f32⟩
  | .local _ .vmem, ⟨9, _⟩ => ⟨S2x8x512, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1024x1408, .bf16⟩
  | .local _ .vmem, ⟨14, _⟩ => ⟨S1x1024x1408, .bf16⟩
  | .local _ .vmem, ⟨15, _⟩ => ⟨S1x1024x1408, .bf16⟩
  | .local _ .vmem, ⟨16, _⟩ => ⟨S1x1024x1408, .bf16⟩
  | .local _ .vmem, ⟨17, _⟩ => ⟨S1x1408x1024, .bf16⟩
  | .local _ .vmem, ⟨18, _⟩ => ⟨S1x1408x1024, .bf16⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .smem, ⟨0, _⟩ => ⟨S128, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v10 : Ref sig .tc := ⟨.hbm, 20, rfl⟩
abbrev main_v11 : Ref sig .tc := ⟨.hbm, 21, rfl⟩
abbrev main_v9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 8], ![false, false]⟩

abbrev pre0 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c2_i32 : BitVec 32 := 2#32
  let v8 : BitVec 32 := Scalar.muli arg0 c2_i32
  let c0_i32_1 : BitVec 32 := 0#32
  let v9 : BitVec 32 := Scalar.addi v8 c0_i32_1
  let c8_i32 : BitVec 32 := 8#32
  let v10 : BitVec 32 := Scalar.muli v9 c8_i32
  let arg1 : BitVec 32 := BitVec.ofNat 32 (i 1).val
  let v11 : BitVec 32 := Scalar.addi v10 arg1
  let v12 : Index := Scalar.indexCast v11
  ![v12.toNat]
def k0_off2 (i : grid0.Coords) : Fin 3 → Nat :=
  let c0 : Index := 0#32
  let arg1 : BitVec 32 := BitVec.ofNat 32 (i 1).val
  let v47 : Index := Scalar.indexCast arg1
  let c0_18 : Index := 0#32
  ![0, v47.toNat, 0]
def k0_off3 (i : grid0.Coords) : Fin 3 → Nat :=
  let c0 : Index := 0#32
  let arg1 : BitVec 32 := BitVec.ofNat 32 (i 1).val
  let v47 : Index := Scalar.indexCast arg1
  let c0_18 : Index := 0#32
  ![0, v47.toNat, 0]
def k0_off4 (i : grid0.Coords) : Fin 3 → Nat :=
  let c0 : Index := 0#32
  let arg1 : BitVec 32 := BitVec.ofNat 32 (i 1).val
  let v47 : Index := Scalar.indexCast arg1
  let c0_18 : Index := 0#32
  ![0, v47.toNat, 0]
def k0_off5 (i : grid0.Coords) : Fin 3 → Nat :=
  let c0 : Index := 0#32
  let arg1 : BitVec 32 := BitVec.ofNat 32 (i 1).val
  let v47 : Index := Scalar.indexCast arg1
  let c0_18 : Index := 0#32
  ![0, v47.toNat, 0]
def k0_off6 (i : grid0.Coords) : Fin 1 → Nat :=
  let arg0 : BitVec 32 := BitVec.ofNat 32 (i 0).val
  let c2_i32_7 : BitVec 32 := 2#32
  let v26 : BitVec 32 := Scalar.muli arg0 c2_i32_7
  let c1_i32 : BitVec 32 := 1#32
  let v27 : BitVec 32 := Scalar.addi v26 c1_i32
  let c8_i32_8 : BitVec 32 := 8#32
  let v28 : BitVec 32 := Scalar.muli v27 c8_i32_8
  let arg1 : BitVec 32 := BitVec.ofNat 32 (i 1).val
  let v29 : BitVec 32 := Scalar.addi v28 arg1
  let v30 : Index := Scalar.indexCast v29
  ![v30.toNat]
def k0_off7 (i : grid0.Coords) : Fin 3 → Nat :=
  let c1 : Index := 1#32
  let arg1 : BitVec 32 := BitVec.ofNat 32 (i 1).val
  let v47 : Index := Scalar.indexCast arg1
  let c0 : Index := 0#32
  ![1, v47.toNat, 0]
def k0_off8 (i : grid0.Coords) : Fin 3 → Nat :=
  let c1 : Index := 1#32
  let arg1 : BitVec 32 := BitVec.ofNat 32 (i 1).val
  let v47 : Index := Scalar.indexCast arg1
  let c0 : Index := 0#32
  ![1, v47.toNat, 0]
def k0_off9 (i : grid0.Coords) : Fin 3 → Nat :=
  let c1 : Index := 1#32
  let arg1 : BitVec 32 := BitVec.ofNat 32 (i 1).val
  let v47 : Index := Scalar.indexCast arg1
  let c0 : Index := 0#32
  ![1, v47.toNat, 0]
def k0_off10 (i : grid0.Coords) : Fin 3 → Nat :=
  let c1 : Index := 1#32
  let arg1 : BitVec 32 := BitVec.ofNat 32 (i 1).val
  let v47 : Index := Scalar.indexCast arg1
  let c0 : Index := 0#32
  ![1, v47.toNat, 0]
def k0_cond10 (i : grid0.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_17 : BitVec 32 := 0#32
  let v46 : BitVec 1 := Scalar.cmpi .ne v45 c0_i32_17
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1408x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S8192x1024 : Shape := ⟨2, ![8192, 1024]⟩
abbrev S8192x128 : Shape := ⟨2, ![8192, 128]⟩
abbrev S16x8x512 : Shape := ⟨3, ![16, 8, 512]⟩
abbrev S16x8x128 : Shape := ⟨3, ![16, 8, 128]⟩
abbrev S1x1x1024 : Shape := ⟨3, ![1, 1, 1024]⟩
abbrev S1024 : Shape := ⟨1, ![1024]⟩
abbrev S1x8x1024x1408 : Shape := ⟨4, ![1, 8, 1024, 1408]⟩
abbrev S1x8x1408x1024 : Shape := ⟨4, ![1, 8, 1408, 1024]⟩
abbrev S_ : Shape := ⟨0, ![]⟩
abbrev S8192x1 : Shape := ⟨2, ![8192, 1]⟩
abbrev S1x1x1024x1408 : Shape := ⟨4, ![1, 1, 1024, 1408]⟩
abbrev S1024x1408 : Shape := ⟨2, ![1024, 1408]⟩
abbrev S1x1x1408x1024 : Shape := ⟨4, ![1, 1, 1408, 1024]⟩
abbrev S1408x1024 : Shape := ⟨2, ![1408, 1024]⟩
abbrev S8192x1408 : Shape := ⟨2, ![8192, 1408]⟩
abbrev S1x1024 : Shape := ⟨2, ![1, 1024]⟩
abbrev S8192 : Shape := ⟨1, ![8192]⟩

abbrev nBuf : Space → Nat
  | .hbm => 218
  | .vmem => 0
  | .smem => 0
  | _ => 0

abbrev hbmTy0_0 (i : Nat) : BufTy := match i % 128 with
  | 0 => ⟨S8192x1024, .f32⟩
  | 1 => ⟨S8192x1024, .bf16⟩
  | 2 => ⟨S8192x128, .f32⟩
  | 3 => ⟨S8192x128, .f32⟩
  | 4 => ⟨S16x8x512, .f32⟩
  | 5 => ⟨S16x8x128, .f32⟩
  | 6 => ⟨S1x1x1024, .f32⟩
  | 7 => ⟨S1024, .f32⟩
  | 8 => ⟨S1x8x1024x1408, .f32⟩
  | 9 => ⟨S1x8x1024x1408, .f32⟩
  | 10 => ⟨S1x8x1408x1024, .f32⟩
  | 11 => ⟨S8192x1024, .f32⟩
  | 12 => ⟨S_, .f32⟩
  | 13 => ⟨S8192x1024, .f32⟩
  | 14 => ⟨S8192x1, .f32⟩
  | 15 => ⟨S1x1x1024x1408, .f32⟩
  | 16 => ⟨S1024x1408, .f32⟩
  | 17 => ⟨S1x1x1024x1408, .f32⟩
  | 18 => ⟨S1024x1408, .f32⟩
  | 19 => ⟨S1x1x1408x1024, .f32⟩
  | 20 => ⟨S1408x1024, .f32⟩
  | 21 => ⟨S8192x1408, .f32⟩
  | 22 => ⟨S8192x1408, .f32⟩
  | 23 => ⟨S8192x1408, .f32⟩
  | 24 => ⟨S_, .f32⟩
  | 25 => ⟨S8192x1408, .f32⟩
  | 26 => ⟨S8192x1408, .f32⟩
  | 27 => ⟨S_, .f32⟩
  | 28 => ⟨S8192x1408, .f32⟩
  | 29 => ⟨S8192x1408, .f32⟩
  | 30 => ⟨S8192x1408, .f32⟩
  | 31 => ⟨S8192x1408, .f32⟩
  | 32 => ⟨S8192x1408, .f32⟩
  | 33 => ⟨S8192x1024, .f32⟩
  | 34 => ⟨S8192x1024, .f32⟩
  | 35 => ⟨S8192x1024, .f32⟩
  | 36 => ⟨S8192x1024, .f32⟩
  | 37 => ⟨S8192x1, .f32⟩
  | 38 => ⟨S1x1x1024x1408, .f32⟩
  | 39 => ⟨S1024x1408, .f32⟩
  | 40 => ⟨S1x1x1024x1408, .f32⟩
  | 41 => ⟨S1024x1408, .f32⟩
  | 42 => ⟨S1x1x1408x1024, .f32⟩
  | 43 => ⟨S1408x1024, .f32⟩
  | 44 => ⟨S8192x1408, .f32⟩
  | 45 => ⟨S8192x1408, .f32⟩
  | 46 => ⟨S8192x1408, .f32⟩
  | 47 => ⟨S_, .f32⟩
  | 48 => ⟨S8192x1408, .f32⟩
  | 49 => ⟨S8192x1408, .f32⟩
  | 50 => ⟨S_, .f32⟩
  | 51 => ⟨S8192x1408, .f32⟩
  | 52 => ⟨S8192x1408, .f32⟩
  | 53 => ⟨S8192x1408, .f32⟩
  | 54 => ⟨S8192x1408, .f32⟩
  | 55 => ⟨S8192x1408, .f32⟩
  | 56 => ⟨S8192x1024, .f32⟩
  | 57 => ⟨S8192x1024, .f32⟩
  | 58 => ⟨S8192x1024, .f32⟩
  | 59 => ⟨S8192x1024, .f32⟩
  | 60 => ⟨S8192x1, .f32⟩
  | 61 => ⟨S1x1x1024x1408, .f32⟩
  | 62 => ⟨S1024x1408, .f32⟩
  | 63 => ⟨S1x1x1024x1408, .f32⟩
  | 64 => ⟨S1024x1408, .f32⟩
  | 65 => ⟨S1x1x1408x1024, .f32⟩
  | 66 => ⟨S1408x1024, .f32⟩
  | 67 => ⟨S8192x1408, .f32⟩
  | 68 => ⟨S8192x1408, .f32⟩
  | 69 => ⟨S8192x1408, .f32⟩
  | 70 => ⟨S_, .f32⟩
  | 71 => ⟨S8192x1408, .f32⟩
  | 72 => ⟨S8192x1408, .f32⟩
  | 73 => ⟨S_, .f32⟩
  | 74 => ⟨S8192x1408, .f32⟩
  | 75 => ⟨S8192x1408, .f32⟩
  | 76 => ⟨S8192x1408, .f32⟩
  | 77 => ⟨S8192x1408, .f32⟩
  | 78 => ⟨S8192x1408, .f32⟩
  | 79 => ⟨S8192x1024, .f32⟩
  | 80 => ⟨S8192x1024, .f32⟩
  | 81 => ⟨S8192x1024, .f32⟩
  | 82 => ⟨S8192x1024, .f32⟩
  | 83 => ⟨S8192x1, .f32⟩
  | 84 => ⟨S1x1x1024x1408, .f32⟩
  | 85 => ⟨S1024x1408, .f32⟩
  | 86 => ⟨S1x1x1024x1408, .f32⟩
  | 87 => ⟨S1024x1408, .f32⟩
  | 88 => ⟨S1x1x1408x1024, .f32⟩
  | 89 => ⟨S1408x1024, .f32⟩
  | 90 => ⟨S8192x1408, .f32⟩
  | 91 => ⟨S8192x1408, .f32⟩
  | 92 => ⟨S8192x1408, .f32⟩
  | 93 => ⟨S_, .f32⟩
  | 94 => ⟨S8192x1408, .f32⟩
  | 95 => ⟨S8192x1408, .f32⟩
  | 96 => ⟨S_, .f32⟩
  | 97 => ⟨S8192x1408, .f32⟩
  | 98 => ⟨S8192x1408, .f32⟩
  | 99 => ⟨S8192x1408, .f32⟩
  | 100 => ⟨S8192x1408, .f32⟩
  | 101 => ⟨S8192x1408, .f32⟩
  | 102 => ⟨S8192x1024, .f32⟩
  | 103 => ⟨S8192x1024, .f32⟩
  | 104 => ⟨S8192x1024, .f32⟩
  | 105 => ⟨S8192x1024, .f32⟩
  | 106 => ⟨S8192x1, .f32⟩
  | 107 => ⟨S1x1x1024x1408, .f32⟩
  | 108 => ⟨S1024x1408, .f32⟩
  | 109 => ⟨S1x1x1024x1408, .f32⟩
  | 110 => ⟨S1024x1408, .f32⟩
  | 111 => ⟨S1x1x1408x1024, .f32⟩
  | 112 => ⟨S1408x1024, .f32⟩
  | 113 => ⟨S8192x1408, .f32⟩
  | 114 => ⟨S8192x1408, .f32⟩
  | 115 => ⟨S8192x1408, .f32⟩
  | 116 => ⟨S_, .f32⟩
  | 117 => ⟨S8192x1408, .f32⟩
  | 118 => ⟨S8192x1408, .f32⟩
  | 119 => ⟨S_, .f32⟩
  | 120 => ⟨S8192x1408, .f32⟩
  | 121 => ⟨S8192x1408, .f32⟩
  | 122 => ⟨S8192x1408, .f32⟩
  | 123 => ⟨S8192x1408, .f32⟩
  | 124 => ⟨S8192x1408, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1, .f32⟩
  | 2 => ⟨S1x1x1024x1408, .f32⟩
  | 3 => ⟨S1024x1408, .f32⟩
  | 4 => ⟨S1x1x1024x1408, .f32⟩
  | 5 => ⟨S1024x1408, .f32⟩
  | 6 => ⟨S1x1x1408x1024, .f32⟩
  | 7 => ⟨S1408x1024, .f32⟩
  | 8 => ⟨S8192x1408, .f32⟩
  | 9 => ⟨S8192x1408, .f32⟩
  | 10 => ⟨S8192x1408, .f32⟩
  | 11 => ⟨S_, .f32⟩
  | 12 => ⟨S8192x1408, .f32⟩
  | 13 => ⟨S8192x1408, .f32⟩
  | 14 => ⟨S_, .f32⟩
  | 15 => ⟨S8192x1408, .f32⟩
  | 16 => ⟨S8192x1408, .f32⟩
  | 17 => ⟨S8192x1408, .f32⟩
  | 18 => ⟨S8192x1408, .f32⟩
  | 19 => ⟨S8192x1408, .f32⟩
  | 20 => ⟨S8192x1024, .f32⟩
  | 21 => ⟨S8192x1024, .f32⟩
  | 22 => ⟨S8192x1024, .f32⟩
  | 23 => ⟨S8192x1024, .f32⟩
  | 24 => ⟨S8192x1, .f32⟩
  | 25 => ⟨S1x1x1024x1408, .f32⟩
  | 26 => ⟨S1024x1408, .f32⟩
  | 27 => ⟨S1x1x1024x1408, .f32⟩
  | 28 => ⟨S1024x1408, .f32⟩
  | 29 => ⟨S1x1x1408x1024, .f32⟩
  | 30 => ⟨S1408x1024, .f32⟩
  | 31 => ⟨S8192x1408, .f32⟩
  | 32 => ⟨S8192x1408, .f32⟩
  | 33 => ⟨S8192x1408, .f32⟩
  | 34 => ⟨S_, .f32⟩
  | 35 => ⟨S8192x1408, .f32⟩
  | 36 => ⟨S8192x1408, .f32⟩
  | 37 => ⟨S_, .f32⟩
  | 38 => ⟨S8192x1408, .f32⟩
  | 39 => ⟨S8192x1408, .f32⟩
  | 40 => ⟨S8192x1408, .f32⟩
  | 41 => ⟨S8192x1408, .f32⟩
  | 42 => ⟨S8192x1408, .f32⟩
  | 43 => ⟨S8192x1024, .f32⟩
  | 44 => ⟨S8192x1024, .f32⟩
  | 45 => ⟨S8192x1024, .f32⟩
  | 46 => ⟨S8192x1024, .f32⟩
  | 47 => ⟨S8192x1, .f32⟩
  | 48 => ⟨S1x1x1024x1408, .f32⟩
  | 49 => ⟨S1024x1408, .f32⟩
  | 50 => ⟨S1x1x1024x1408, .f32⟩
  | 51 => ⟨S1024x1408, .f32⟩
  | 52 => ⟨S1x1x1408x1024, .f32⟩
  | 53 => ⟨S1408x1024, .f32⟩
  | 54 => ⟨S8192x1408, .f32⟩
  | 55 => ⟨S8192x1408, .f32⟩
  | 56 => ⟨S8192x1408, .f32⟩
  | 57 => ⟨S_, .f32⟩
  | 58 => ⟨S8192x1408, .f32⟩
  | 59 => ⟨S8192x1408, .f32⟩
  | 60 => ⟨S_, .f32⟩
  | 61 => ⟨S8192x1408, .f32⟩
  | 62 => ⟨S8192x1408, .f32⟩
  | 63 => ⟨S8192x1408, .f32⟩
  | 64 => ⟨S8192x1408, .f32⟩
  | 65 => ⟨S8192x1408, .f32⟩
  | 66 => ⟨S8192x1024, .f32⟩
  | 67 => ⟨S8192x1024, .f32⟩
  | 68 => ⟨S8192x1024, .f32⟩
  | 69 => ⟨S8192x1024, .f32⟩
  | 70 => ⟨S1x1024, .f32⟩
  | 71 => ⟨S8192x1024, .f32⟩
  | 72 => ⟨S8192x1024, .f32⟩
  | 73 => ⟨S8192x1024, .f32⟩
  | 74 => ⟨S8192x1024, .f32⟩
  | 75 => ⟨S_, .f32⟩
  | 76 => ⟨S8192, .f32⟩
  | 77 => ⟨S8192x1, .f32⟩
  | 78 => ⟨S_, .f32⟩
  | 79 => ⟨S8192x1, .f32⟩
  | 80 => ⟨S8192x1, .f32⟩
  | 81 => ⟨S_, .f32⟩
  | 82 => ⟨S8192x1, .f32⟩
  | 83 => ⟨S8192x1, .f32⟩
  | 84 => ⟨S8192x1, .f32⟩
  | 85 => ⟨S8192x1024, .f32⟩
  | 86 => ⟨S8192x1024, .f32⟩
  | 87 => ⟨S1x1024, .f32⟩
  | 88 => ⟨S8192x1024, .f32⟩
  | 89 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_call2_v0 : Ref sig .tc := ⟨.hbm, 68, rfl⟩
abbrev main_call2_v1 : Ref sig .tc := ⟨.hbm, 69, rfl⟩
abbrev main_call2_cst : Ref sig .tc := ⟨.hbm, 70, rfl⟩
abbrev main_call2_v2 : Ref sig .tc := ⟨.hbm, 71, rfl⟩
abbrev main_call2_v3 : Ref sig .tc := ⟨.hbm, 72, rfl⟩
abbrev main_call2_cst_0 : Ref sig .tc := ⟨.hbm, 73, rfl⟩
abbrev main_call2_v4 : Ref sig .tc := ⟨.hbm, 74, rfl⟩
abbrev main_call2_v5 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_call3_v0 : Ref sig .tc := ⟨.hbm, 91, rfl⟩
abbrev main_call3_v1 : Ref sig .tc := ⟨.hbm, 92, rfl⟩
abbrev main_call3_cst : Ref sig .tc := ⟨.hbm, 93, rfl⟩
abbrev main_call3_v2 : Ref sig .tc := ⟨.hbm, 94, rfl⟩
abbrev main_call3_v3 : Ref sig .tc := ⟨.hbm, 95, rfl⟩
abbrev main_call3_cst_0 : Ref sig .tc := ⟨.hbm, 96, rfl⟩
abbrev main_call3_v4 : Ref sig .tc := ⟨.hbm, 97, rfl⟩
abbrev main_call3_v5 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_call4_v0 : Ref sig .tc := ⟨.hbm, 114, rfl⟩
abbrev main_call4_v1 : Ref sig .tc := ⟨.hbm, 115, rfl⟩
abbrev main_call4_cst : Ref sig .tc := ⟨.hbm, 116, rfl⟩
abbrev main_call4_v2 : Ref sig .tc := ⟨.hbm, 117, rfl⟩
abbrev main_call4_v3 : Ref sig .tc := ⟨.hbm, 118, rfl⟩
abbrev main_call4_cst_0 : Ref sig .tc := ⟨.hbm, 119, rfl⟩
abbrev main_call4_v4 : Ref sig .tc := ⟨.hbm, 120, rfl⟩
abbrev main_call4_v5 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_call5_v0 : Ref sig .tc := ⟨.hbm, 137, rfl⟩
abbrev main_call5_v1 : Ref sig .tc := ⟨.hbm, 138, rfl⟩
abbrev main_call5_cst : Ref sig .tc := ⟨.hbm, 139, rfl⟩
abbrev main_call5_v2 : Ref sig .tc := ⟨.hbm, 140, rfl⟩
abbrev main_call5_v3 : Ref sig .tc := ⟨.hbm, 141, rfl⟩
abbrev main_call5_cst_0 : Ref sig .tc := ⟨.hbm, 142, rfl⟩
abbrev main_call5_v4 : Ref sig .tc := ⟨.hbm, 143, rfl⟩
abbrev main_call5_v5 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_call6_v0 : Ref sig .tc := ⟨.hbm, 160, rfl⟩
abbrev main_call6_v1 : Ref sig .tc := ⟨.hbm, 161, rfl⟩
abbrev main_call6_cst : Ref sig .tc := ⟨.hbm, 162, rfl⟩
abbrev main_call6_v2 : Ref sig .tc := ⟨.hbm, 163, rfl⟩
abbrev main_call6_v3 : Ref sig .tc := ⟨.hbm, 164, rfl⟩
abbrev main_call6_cst_0 : Ref sig .tc := ⟨.hbm, 165, rfl⟩
abbrev main_call6_v4 : Ref sig .tc := ⟨.hbm, 166, rfl⟩
abbrev main_call6_v5 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_call7_v0 : Ref sig .tc := ⟨.hbm, 183, rfl⟩
abbrev main_call7_v1 : Ref sig .tc := ⟨.hbm, 184, rfl⟩
abbrev main_call7_cst : Ref sig .tc := ⟨.hbm, 185, rfl⟩
abbrev main_call7_v2 : Ref sig .tc := ⟨.hbm, 186, rfl⟩
abbrev main_call7_v3 : Ref sig .tc := ⟨.hbm, 187, rfl⟩
abbrev main_call7_cst_0 : Ref sig .tc := ⟨.hbm, 188, rfl⟩
abbrev main_call7_v4 : Ref sig .tc := ⟨.hbm, 189, rfl⟩
abbrev main_call7_v5 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_cst_0 : Ref sig .tc := ⟨.hbm, 203, rfl⟩
abbrev main_v127 : Ref sig .tc := ⟨.hbm, 204, rfl⟩
abbrev main_v128 : Ref sig .tc := ⟨.hbm, 205, rfl⟩
abbrev main_cst_1 : Ref sig .tc := ⟨.hbm, 206, rfl⟩
abbrev main_v129 : Ref sig .tc := ⟨.hbm, 207, rfl⟩
abbrev main_v130 : Ref sig .tc := ⟨.hbm, 208, rfl⟩
abbrev main_cst_2 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩

abbrev nD : Nat := 1
abbrev τ : Topo := Topo.v7x

variable {F : FTy → Type} [FloatOps F]
-- ==== Kernel2.lean ====
abbrev S8192x256 : Shape := ⟨2, ![8192, 256]⟩
abbrev S8192x768 : Shape := ⟨2, ![8192, 768]⟩
abbrev S8192x1024 : Shape := ⟨2, ![8192, 1024]⟩
abbrev S3x6x1x1024 : Shape := ⟨4, ![3, 6, 1, 1024]⟩
abbrev S1024 : Shape := ⟨1, ![1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1x1x1x1024 : Shape := ⟨4, ![1, 1, 1, 1024]⟩
abbrev S1x1x1024 : Shape := ⟨3, ![1, 1, 1024]⟩
abbrev S1024x2816 : Shape := ⟨2, ![1024, 2816]⟩
abbrev S2816x1024 : Shape := ⟨2, ![2816, 1024]⟩
abbrev S1024x1024 : Shape := ⟨2, ![1024, 1024]⟩
abbrev S1x1024 : Shape := ⟨2, ![1, 1024]⟩
abbrev S512x256 : Shape := ⟨2, ![512, 256]⟩
abbrev S512x768 : Shape := ⟨2, ![512, 768]⟩
abbrev S512x1024 : Shape := ⟨2, ![512, 1024]⟩
abbrev S256x1024 : Shape := ⟨2, ![256, 1024]⟩
abbrev S768x1024 : Shape := ⟨2, ![768, 1024]⟩
abbrev S512 : Shape := ⟨1, ![512]⟩
abbrev S512x1 : Shape := ⟨2, ![512, 1]⟩
abbrev S512x2816 : Shape := ⟨2, ![512, 2816]⟩

abbrev nBuf : Space → Nat
  | .hbm => 27
  | .vmem => 24
  | .smem => 0
  | _ => 0

abbrev bufTy : (tb : Table) → Fin (tcTables nBuf tb) → BufTy
  | .hbm, ⟨0, _⟩ => ⟨S8192x256, .bf16⟩
  | .hbm, ⟨1, _⟩ => ⟨S8192x768, .bf16⟩
  | .hbm, ⟨2, _⟩ => ⟨S8192x1024, .f32⟩
  | .hbm, ⟨3, _⟩ => ⟨S3x6x1x1024, .f32⟩
  | .hbm, ⟨4, _⟩ => ⟨S1024, .f32⟩
  | .hbm, ⟨5, _⟩ => ⟨S1x1024x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1x1x1024, .f32⟩
  | .hbm, ⟨10, _⟩ => ⟨S1x1x1024, .f32⟩
  | .hbm, ⟨11, _⟩ => ⟨S1x1x1x1024, .f32⟩
  | .hbm, ⟨12, _⟩ => ⟨S1x1x1024, .f32⟩
  | .hbm, ⟨13, _⟩ => ⟨S1x1x1x1024, .f32⟩
  | .hbm, ⟨14, _⟩ => ⟨S1x1x1024, .f32⟩
  | .hbm, ⟨15, _⟩ => ⟨S1x1x1x1024, .f32⟩
  | .hbm, ⟨16, _⟩ => ⟨S1x1x1024, .f32⟩
  | .hbm, ⟨17, _⟩ => ⟨S1024x2816, .f32⟩
  | .hbm, ⟨18, _⟩ => ⟨S1024x2816, .bf16⟩
  | .hbm, ⟨19, _⟩ => ⟨S1024x2816, .f32⟩
  | .hbm, ⟨20, _⟩ => ⟨S1024x2816, .bf16⟩
  | .hbm, ⟨21, _⟩ => ⟨S2816x1024, .f32⟩
  | .hbm, ⟨22, _⟩ => ⟨S2816x1024, .bf16⟩
  | .hbm, ⟨23, _⟩ => ⟨S1024x1024, .f32⟩
  | .hbm, ⟨24, _⟩ => ⟨S1024x1024, .bf16⟩
  | .hbm, ⟨25, _⟩ => ⟨S1x1024, .f32⟩
  | .hbm, ⟨26, _⟩ => ⟨S8192x1024, .f32⟩
  | .local _ .vmem, ⟨0, _⟩ => ⟨S512x256, .bf16⟩
  | .local _ .vmem, ⟨1, _⟩ => ⟨S512x256, .bf16⟩
  | .local _ .vmem, ⟨2, _⟩ => ⟨S512x768, .bf16⟩
  | .local _ .vmem, ⟨3, _⟩ => ⟨S512x768, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x2816, .bf16⟩
  | .local _ .vmem, ⟨17, _⟩ => ⟨S1024x2816, .bf16⟩
  | .local _ .vmem, ⟨18, _⟩ => ⟨S2816x1024, .bf16⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_17 : BitVec 32 := 0#32
  let v28 : BitVec 1 := Scalar.cmpi .eq arg1 c0_i32_17
  let v29 : BitVec 32 := Scalar.extui v28
  let c0_i32_18 : BitVec 32 := 0#32
  let v30 : BitVec 1 := Scalar.cmpi .ne v29 c0_i32_18
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference2Ideal.lean ====
abbrev S8192x256 : Shape := ⟨2, ![8192, 256]⟩
abbrev S8192x768 : Shape := ⟨2, ![8192, 768]⟩
abbrev S8192x1024 : Shape := ⟨2, ![8192, 1024]⟩
abbrev S3x6x1x1024 : Shape := ⟨4, ![3, 6, 1, 1024]⟩
abbrev S1024 : Shape := ⟨1, ![1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1x1x1x1024 : Shape := ⟨4, ![1, 1, 1, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S2816x1024 : Shape := ⟨2, ![2816, 1024]⟩
abbrev S8192x2816 : Shape := ⟨2, ![8192, 2816]⟩

abbrev nBuf : Space → Nat
  | .hbm => 67
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x768, .bf16⟩
  | .hbm, ⟨2, _⟩ => ⟨S8192x1024, .f32⟩
  | .hbm, ⟨3, _⟩ => ⟨S3x6x1x1024, .f32⟩
  | .hbm, ⟨4, _⟩ => ⟨S1024, .f32⟩
  | .hbm, ⟨5, _⟩ => ⟨S1x1024x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1x1x1024, .f32⟩
  | .hbm, ⟨10, _⟩ => ⟨S1x1024, .f32⟩
  | .hbm, ⟨11, _⟩ => ⟨S1x1x1x1024, .f32⟩
  | .hbm, ⟨12, _⟩ => ⟨S1x1024, .f32⟩
  | .hbm, ⟨13, _⟩ => ⟨S1x1x1x1024, .f32⟩
  | .hbm, ⟨14, _⟩ => ⟨S1x1024, .f32⟩
  | .hbm, ⟨15, _⟩ => ⟨S1x1x1x1024, .f32⟩
  | .hbm, ⟨16, _⟩ => ⟨S1x1024, .f32⟩
  | .hbm, ⟨17, _⟩ => ⟨S8192x256, .f32⟩
  | .hbm, ⟨18, _⟩ => ⟨S8192x768, .f32⟩
  | .hbm, ⟨19, _⟩ => ⟨S8192x1024, .f32⟩
  | .hbm, ⟨20, _⟩ => ⟨S1024x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S1024x2816, .f32⟩
  | .hbm, ⟨49, _⟩ => ⟨S1024x2816, .f32⟩
  | .hbm, ⟨50, _⟩ => ⟨S2816x1024, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S_, .f32⟩
  | .hbm, ⟨55, _⟩ => ⟨S8192x2816, .f32⟩
  | .hbm, ⟨56, _⟩ => ⟨S8192x2816, .f32⟩
  | .hbm, ⟨57, _⟩ => ⟨S_, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]
-- ==== Kernel3.lean ====
abbrev S8192x1024 : Shape := ⟨2, ![8192, 1024]⟩
abbrev S3x6x1x1024 : Shape := ⟨4, ![3, 6, 1, 1024]⟩
abbrev S1024 : Shape := ⟨1, ![1024]⟩
abbrev S1x1024x2944 : Shape := ⟨3, ![1, 1024, 2944]⟩
abbrev S1x1x1x1024 : Shape := ⟨4, ![1, 1, 1, 1024]⟩
abbrev S1x1x1024 : Shape := ⟨3, ![1, 1, 1024]⟩
abbrev S1024x2944 : Shape := ⟨2, ![1024, 2944]⟩
abbrev S1x1024 : Shape := ⟨2, ![1, 1024]⟩
abbrev S8192x256 : Shape := ⟨2, ![8192, 256]⟩
abbrev S8192x2688 : Shape := ⟨2, ![8192, 2688]⟩
abbrev S512x1024 : Shape := ⟨2, ![512, 1024]⟩
abbrev S512x256 : Shape := ⟨2, ![512, 256]⟩
abbrev S512x2688 : Shape := ⟨2, ![512, 2688]⟩
abbrev S512 : Shape := ⟨1, ![512]⟩
abbrev S512x1 : Shape := ⟨2, ![512, 1]⟩
abbrev S1024x256 : Shape := ⟨2, ![1024, 256]⟩
abbrev S1024x2688 : Shape := ⟨2, ![1024, 2688]⟩

abbrev nBuf : Space → Nat
  | .hbm => 13
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S3x6x1x1024, .f32⟩
  | .hbm, ⟨2, _⟩ => ⟨S1024, .f32⟩
  | .hbm, ⟨3, _⟩ => ⟨S1x1024x2944, .f32⟩
  | .hbm, ⟨4, _⟩ => ⟨S1x1x1x1024, .f32⟩
  | .hbm, ⟨5, _⟩ => ⟨S1x1x1024, .f32⟩
  | .hbm, ⟨6, _⟩ => ⟨S1x1x1x1024, .f32⟩
  | .hbm, ⟨7, _⟩ => ⟨S1x1x1024, .f32⟩
  | .hbm, ⟨8, _⟩ => ⟨S1024x2944, .f32⟩
  | .hbm, ⟨9, _⟩ => ⟨S1024x2944, .bf16⟩
  | .hbm, ⟨10, _⟩ => ⟨S1x1024, .f32⟩
  | .hbm, ⟨11, _⟩ => ⟨S8192x256, .f32⟩
  | .hbm, ⟨12, _⟩ => ⟨S8192x2688, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2944, .bf16⟩
  | .local _ .vmem, ⟨8, _⟩ => ⟨S512x256, .f32⟩
  | .local _ .vmem, ⟨9, _⟩ => ⟨S512x256, .f32⟩
  | .local _ .vmem, ⟨10, _⟩ => ⟨S512x2688, .f32⟩
  | .local _ .vmem, ⟨11, _⟩ => ⟨S512x2688, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2944 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2688 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8192x1024 : Shape := ⟨2, ![8192, 1024]⟩
abbrev S3x6x1x1024 : Shape := ⟨4, ![3, 6, 1, 1024]⟩
abbrev S1024 : Shape := ⟨1, ![1024]⟩
abbrev S1x1024x2944 : Shape := ⟨3, ![1, 1024, 2944]⟩
abbrev S1x1x1x1024 : Shape := ⟨4, ![1, 1, 1, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x2944 : Shape := ⟨2, ![1024, 2944]⟩
abbrev S8192x2944 : Shape := ⟨2, ![8192, 2944]⟩
abbrev S8192x256 : Shape := ⟨2, ![8192, 256]⟩
abbrev S8192x2688 : Shape := ⟨2, ![8192, 2688]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S3x6x1x1024, .f32⟩
  | .hbm, ⟨2, _⟩ => ⟨S1024, .f32⟩
  | .hbm, ⟨3, _⟩ => ⟨S1x1024x2944, .f32⟩
  | .hbm, ⟨4, _⟩ => ⟨S1x1x1x1024, .f32⟩
  | .hbm, ⟨5, _⟩ => ⟨S1x1024, .f32⟩
  | .hbm, ⟨6, _⟩ => ⟨S1x1x1x1024, .f32⟩
  | .hbm, ⟨7, _⟩ => ⟨S1x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1024x2944, .f32⟩
  | .hbm, ⟨32, _⟩ => ⟨S8192x2944, .f32⟩
  | .hbm, ⟨33, _⟩ => ⟨S8192x256, .f32⟩
  | .hbm, ⟨34, _⟩ => ⟨S8192x2688, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel4.lean ====
abbrev S8192x1024 : Shape := ⟨2, ![8192, 1024]⟩
abbrev S3x6x1x1024 : Shape := ⟨4, ![3, 6, 1, 1024]⟩
abbrev S1024 : Shape := ⟨1, ![1024]⟩
abbrev S1x1024x2560 : Shape := ⟨3, ![1, 1024, 2560]⟩
abbrev S1x1x1x1024 : Shape := ⟨4, ![1, 1, 1, 1024]⟩
abbrev S1x1x1024 : Shape := ⟨3, ![1, 1, 1024]⟩
abbrev S1024x2560 : Shape := ⟨2, ![1024, 2560]⟩
abbrev S1x1024 : Shape := ⟨2, ![1, 1024]⟩
abbrev S8192x256 : Shape := ⟨2, ![8192, 256]⟩
abbrev S8192x768 : Shape := ⟨2, ![8192, 768]⟩
abbrev S512x1024 : Shape := ⟨2, ![512, 1024]⟩
abbrev S512x256 : Shape := ⟨2, ![512, 256]⟩
abbrev S512x768 : Shape := ⟨2, ![512, 768]⟩
abbrev S512 : Shape := ⟨1, ![512]⟩
abbrev S512x1 : Shape := ⟨2, ![512, 1]⟩
abbrev S1024x256 : Shape := ⟨2, ![1024, 256]⟩
abbrev S1024x768 : Shape := ⟨2, ![1024, 768]⟩

abbrev nBuf : Space → Nat
  | .hbm => 15
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S3x6x1x1024, .f32⟩
  | .hbm, ⟨2, _⟩ => ⟨S1024, .f32⟩
  | .hbm, ⟨3, _⟩ => ⟨S1x1024x2560, .f32⟩
  | .hbm, ⟨4, _⟩ => ⟨S1x1x1x1024, .f32⟩
  | .hbm, ⟨5, _⟩ => ⟨S1x1x1024, .f32⟩
  | .hbm, ⟨6, _⟩ => ⟨S1x1x1x1024, .f32⟩
  | .hbm, ⟨7, _⟩ => ⟨S1x1x1024, .f32⟩
  | .hbm, ⟨8, _⟩ => ⟨S1024x2560, .f32⟩
  | .hbm, ⟨9, _⟩ => ⟨S1024x2560, .bf16⟩
  | .hbm, ⟨10, _⟩ => ⟨S1x1024, .f32⟩
  | .hbm, ⟨11, _⟩ => ⟨S8192x256, .bf16⟩
  | .hbm, ⟨12, _⟩ => ⟨S8192x768, .bf16⟩
  | .hbm, ⟨13, _⟩ => ⟨S8192x768, .f32⟩
  | .hbm, ⟨14, _⟩ => ⟨S8192x768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2560, .bf16⟩
  | .local _ .vmem, ⟨8, _⟩ => ⟨S512x256, .bf16⟩
  | .local _ .vmem, ⟨9, _⟩ => ⟨S512x256, .bf16⟩
  | .local _ .vmem, ⟨10, _⟩ => ⟨S512x768, .bf16⟩
  | .local _ .vmem, ⟨11, _⟩ => ⟨S512x768, .bf16⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S8192x1024 : Shape := ⟨2, ![8192, 1024]⟩
abbrev S3x6x1x1024 : Shape := ⟨4, ![3, 6, 1, 1024]⟩
abbrev S1024 : Shape := ⟨1, ![1024]⟩
abbrev S1x1024x2560 : Shape := ⟨3, ![1, 1024, 2560]⟩
abbrev S1x1x1x1024 : Shape := ⟨4, ![1, 1, 1, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x2560 : Shape := ⟨2, ![1024, 2560]⟩
abbrev S8192x2560 : Shape := ⟨2, ![8192, 2560]⟩
abbrev S8192x2304 : Shape := ⟨2, ![8192, 2304]⟩
abbrev S8192x768 : Shape := ⟨2, ![8192, 768]⟩
abbrev S8192x256 : Shape := ⟨2, ![8192, 256]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S3x6x1x1024, .f32⟩
  | .hbm, ⟨2, _⟩ => ⟨S1024, .f32⟩
  | .hbm, ⟨3, _⟩ => ⟨S1x1024x2560, .f32⟩
  | .hbm, ⟨4, _⟩ => ⟨S1x1x1x1024, .f32⟩
  | .hbm, ⟨5, _⟩ => ⟨S1x1024, .f32⟩
  | .hbm, ⟨6, _⟩ => ⟨S1x1x1x1024, .f32⟩
  | .hbm, ⟨7, _⟩ => ⟨S1x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1024x2560, .f32⟩
  | .hbm, ⟨32, _⟩ => ⟨S8192x2560, .f32⟩
  | .hbm, ⟨33, _⟩ => ⟨S8192x2304, .f32⟩
  | .hbm, ⟨34, _⟩ => ⟨S8192x768, .f32⟩
  | .hbm, ⟨35, _⟩ => ⟨S8192x768, .f32⟩
  | .hbm, ⟨36, _⟩ => ⟨S8192x768, .f32⟩
  | .hbm, ⟨37, _⟩ => ⟨S8192x256, .f32⟩
  | .hbm, ⟨38, _⟩ => ⟨S8192x256, .bf16⟩
  | .hbm, ⟨39, _⟩ => ⟨S8192x768, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Kernel5.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S2x1x6144, .f32⟩
  | .hbm, ⟨9, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 45
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S1x1024x6144, .f32⟩
  | .hbm, ⟨18, _⟩ => ⟨S1024x6144, .f32⟩
  | .hbm, ⟨19, _⟩ => ⟨S8x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S8x6144, .f32⟩
  | .hbm, ⟨24, _⟩ => ⟨S8x6144, .f32⟩
  | .hbm, ⟨25, _⟩ => ⟨S8x1024, .f32⟩
  | .hbm, ⟨26, _⟩ => ⟨S8x1024, .f32⟩
  | .hbm, ⟨27, _⟩ => ⟨S_, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S1x1024x6144, .f32⟩
  | .hbm, ⟨35, _⟩ => ⟨S1024x6144, .f32⟩
  | .hbm, ⟨36, _⟩ => ⟨S8x6144, .f32⟩
  | .hbm, ⟨37, _⟩ => ⟨S1x6144, .f32⟩
  | .hbm, ⟨38, _⟩ => ⟨S6144, .f32⟩
  | .hbm, ⟨39, _⟩ => ⟨S1x6144, .f32⟩
  | .hbm, ⟨40, _⟩ => ⟨S8x6144, .f32⟩
  | .hbm, ⟨41, _⟩ => ⟨S8x6144, .f32⟩
  | .hbm, ⟨42, _⟩ => ⟨S1x8x6144, .f32⟩
  | .hbm, ⟨43, _⟩ => ⟨S1x8x6144, .f32⟩
  | .hbm, ⟨44, _⟩ => ⟨S2x8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Kernel6.lean ====
abbrev S8192x768 : Shape := ⟨2, ![8192, 768]⟩
abbrev S256x768 : Shape := ⟨2, ![256, 768]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x768, .bf16⟩
  | .hbm, ⟨1, _⟩ => ⟨S8192x768, .f32⟩
  | .hbm, ⟨2, _⟩ => ⟨S8192x768, .f32⟩
  | .hbm, ⟨3, _⟩ => ⟨S8192x768, .bf16⟩
  | .local _ .vmem, ⟨0, _⟩ => ⟨S256x768, .bf16⟩
  | .local _ .vmem, ⟨1, _⟩ => ⟨S256x768, .bf16⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .bf16⟩
  | .local _ .vmem, ⟨7, _⟩ => ⟨S256x768, .bf16⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8192x768 : Shape := ⟨2, ![8192, 768]⟩
abbrev S32x256x12x64 : Shape := ⟨4, ![32, 256, 12, 64]⟩
abbrev S32x12x256x256 : Shape := ⟨4, ![32, 12, 256, 256]⟩
abbrev S_ : Shape := ⟨0, ![]⟩
abbrev S32x12x256 : Shape := ⟨3, ![32, 12, 256]⟩
abbrev S32x12x256x1 : Shape := ⟨4, ![32, 12, 256, 1]⟩
abbrev S32x12x64x256 : Shape := ⟨4, ![32, 12, 64, 256]⟩

abbrev nBuf : Space → Nat
  | .hbm => 29
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x768, .f32⟩
  | .hbm, ⟨2, _⟩ => ⟨S8192x768, .f32⟩
  | .hbm, ⟨3, _⟩ => ⟨S8192x768, .f32⟩
  | .hbm, ⟨4, _⟩ => ⟨S32x256x12x64, .f32⟩
  | .hbm, ⟨5, _⟩ => ⟨S32x256x12x64, .f32⟩
  | .hbm, ⟨6, _⟩ => ⟨S32x256x12x64, .f32⟩
  | .hbm, ⟨7, _⟩ => ⟨S32x12x256x256, .f32⟩
  | .hbm, ⟨8, _⟩ => ⟨S_, .f32⟩
  | .hbm, ⟨9, _⟩ => ⟨S32x12x256x256, .f32⟩
  | .hbm, ⟨10, _⟩ => ⟨S32x12x256x256, .f32⟩
  | .hbm, ⟨11, _⟩ => ⟨S_, .f32⟩
  | .hbm, ⟨12, _⟩ => ⟨S32x12x256, .f32⟩
  | .hbm, ⟨13, _⟩ => ⟨S_, .f32⟩
  | .hbm, ⟨14, _⟩ => ⟨S32x12x256, .f32⟩
  | .hbm, ⟨15, _⟩ => ⟨S32x12x256, .f32⟩
  | .hbm, ⟨16, _⟩ => ⟨S32x12x256x1, .f32⟩
  | .hbm, ⟨17, _⟩ => ⟨S32x12x256x256, .f32⟩
  | .hbm, ⟨18, _⟩ => ⟨S32x12x256x256, .f32⟩
  | .hbm, ⟨19, _⟩ => ⟨S32x12x256x256, .f32⟩
  | .hbm, ⟨20, _⟩ => ⟨S_, .f32⟩
  | .hbm, ⟨21, _⟩ => ⟨S32x12x256, .f32⟩
  | .hbm, ⟨22, _⟩ => ⟨S32x12x256x1, .f32⟩
  | .hbm, ⟨23, _⟩ => ⟨S32x12x256x256, .f32⟩
  | .hbm, ⟨24, _⟩ => ⟨S32x12x256x256, .f32⟩
  | .hbm, ⟨25, _⟩ => ⟨S32x12x64x256, .f32⟩
  | .hbm, ⟨26, _⟩ => ⟨S32x256x12x64, .f32⟩
  | .hbm, ⟨27, _⟩ => ⟨S8192x768, .f32⟩
  | .hbm, ⟨28, _⟩ => ⟨S8192x768, .bf16⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel7.lean ====
abbrev S8192x256 : Shape := ⟨2, ![8192, 256]⟩
abbrev S8192x768 : Shape := ⟨2, ![8192, 768]⟩
abbrev S8192x1024 : Shape := ⟨2, ![8192, 1024]⟩
abbrev S3x6x1x1024 : Shape := ⟨4, ![3, 6, 1, 1024]⟩
abbrev S1024 : Shape := ⟨1, ![1024]⟩
abbrev S1x1024x1024 : Shape := ⟨3, ![1, 1024, 1024]⟩
abbrev S1x1024x8 : Shape := ⟨3, ![1, 1024, 8]⟩
abbrev S1x8 : Shape := ⟨2, ![1, 8]⟩
abbrev S1x1x1x1024 : Shape := ⟨4, ![1, 1, 1, 1024]⟩
abbrev S1x1x1024 : Shape := ⟨3, ![1, 1, 1024]⟩
abbrev S1024x1024 : Shape := ⟨2, ![1024, 1024]⟩
abbrev S1024x8 : Shape := ⟨2, ![1024, 8]⟩
abbrev S8 : Shape := ⟨1, ![8]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S512x512 : Shape := ⟨2, ![512, 512]⟩
abbrev S1x1024 : Shape := ⟨2, ![1, 1024]⟩
abbrev S8192x128 : Shape := ⟨2, ![8192, 128]⟩
abbrev S16x8x512 : Shape := ⟨3, ![16, 8, 512]⟩
abbrev S16x8x128 : Shape := ⟨3, ![16, 8, 128]⟩
abbrev S512x256 : Shape := ⟨2, ![512, 256]⟩
abbrev S512x768 : Shape := ⟨2, ![512, 768]⟩
abbrev S512x1024 : Shape := ⟨2, ![512, 1024]⟩
abbrev S512x128 : Shape := ⟨2, ![512, 128]⟩
abbrev S1x8x512 : Shape := ⟨3, ![1, 8, 512]⟩
abbrev S1x8x128 : Shape := ⟨3, ![1, 8, 128]⟩
abbrev S256x1024 : Shape := ⟨2, ![256, 1024]⟩
abbrev S768x1024 : Shape := ⟨2, ![768, 1024]⟩
abbrev S512 : Shape := ⟨1, ![512]⟩
abbrev S512x1 : Shape := ⟨2, ![512, 1]⟩
abbrev S128x512 : Shape := ⟨2, ![128, 512]⟩
abbrev S8x512 : Shape := ⟨2, ![8, 512]⟩
abbrev S8x128 : Shape := ⟨2, ![8, 128]⟩

abbrev nBuf : Space → Nat
  | .hbm => 44
  | .vmem => 29
  | .smem => 0
  | _ => 0

abbrev bufTy : (tb : Table) → Fin (tcTables nBuf tb) → BufTy
  | .hbm, ⟨0, _⟩ => ⟨S8192x256, .bf16⟩
  | .hbm, ⟨1, _⟩ => ⟨S8192x768, .bf16⟩
  | .hbm, ⟨2, _⟩ => ⟨S8192x1024, .f32⟩
  | .hbm, ⟨3, _⟩ => ⟨S3x6x1x1024, .f32⟩
  | .hbm, ⟨4, _⟩ => ⟨S1024, .f32⟩
  | .hbm, ⟨5, _⟩ => ⟨S1x1024x1024, .f32⟩
  | .hbm, ⟨6, _⟩ => ⟨S1x1024x8, .f32⟩
  | .hbm, ⟨7, _⟩ => ⟨S1x8, .f32⟩
  | .hbm, ⟨8, _⟩ => ⟨S1x1x1x1024, .f32⟩
  | .hbm, ⟨9, _⟩ => ⟨S1x1x1024, .f32⟩
  | .hbm, ⟨10, _⟩ => ⟨S1x1x1x1024, .f32⟩
  | .hbm, ⟨11, _⟩ => ⟨S1x1x1024, .f32⟩
  | .hbm, ⟨12, _⟩ => ⟨S1x1x1x1024, .f32⟩
  | .hbm, ⟨13, _⟩ => ⟨S1x1x1024, .f32⟩
  | .hbm, ⟨14, _⟩ => ⟨S1024x1024, .f32⟩
  | .hbm, ⟨15, _⟩ => ⟨S1024x1024, .bf16⟩
  | .hbm, ⟨16, _⟩ => ⟨S1024x8, .f32⟩
  | .hbm, ⟨17, _⟩ => ⟨S8, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S_, .f32⟩
  | .hbm, ⟨26, _⟩ => ⟨S512x512, .f32⟩
  | .hbm, ⟨27, _⟩ => ⟨S512x512, .i32⟩
  | .hbm, ⟨28, _⟩ => ⟨S_, .i32⟩
  | .hbm, ⟨29, _⟩ => ⟨S512x512, .i32⟩
  | .hbm, ⟨30, _⟩ => ⟨S512x512, .i32⟩
  | .hbm, ⟨31, _⟩ => ⟨S512x512, .i32⟩
  | .hbm, ⟨32, _⟩ => ⟨S512x512, .i1⟩
  | .hbm, ⟨33, _⟩ => ⟨S_, .f32⟩
  | .hbm, ⟨34, _⟩ => ⟨S512x512, .f32⟩
  | .hbm, ⟨35, _⟩ => ⟨S512x512, .f32⟩
  | .hbm, ⟨36, _⟩ => ⟨S512x512, .bf16⟩
  | .hbm, ⟨37, _⟩ => ⟨S1x1024, .f32⟩
  | .hbm, ⟨38, _⟩ => ⟨S8192x1024, .f32⟩
  | .hbm, ⟨39, _⟩ => ⟨S8192x1024, .bf16⟩
  | .hbm, ⟨40, _⟩ => ⟨S8192x128, .f32⟩
  | .hbm, ⟨41, _⟩ => ⟨S8192x128, .f32⟩
  | .hbm, ⟨42, _⟩ => ⟨S16x8x512, .f32⟩
  | .hbm, ⟨43, _⟩ => ⟨S16x8x128, .f32⟩
  | .local _ .vmem, ⟨0, _⟩ => ⟨S512x256, .bf16⟩
  | .local _ .vmem, ⟨1, _⟩ => ⟨S512x256, .bf16⟩
  | .local _ .vmem, ⟨2, _⟩ => ⟨S512x768, .bf16⟩
  | .local _ .vmem, ⟨3, _⟩ => ⟨S512x768, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1024x128, .f32⟩
  | .local _ .vmem, ⟨15, _⟩ => ⟨S1x128, .f32⟩
  | .local _ .vmem, ⟨16, _⟩ => ⟨S512x512, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S1x8x512, .f32⟩
  | .local _ .vmem, ⟨26, _⟩ => ⟨S1x8x512, .f32⟩
  | .local _ .vmem, ⟨27, _⟩ => ⟨S1x8x128, .f32⟩
  | .local _ .vmem, ⟨28, _⟩ => ⟨S1x8x128, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_v10 : Ref sig .tc := ⟨.hbm, 20, rfl⟩
abbrev main_c_0 : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_call2_v0 : Ref sig .tc := ⟨.hbm, 27, rfl⟩
abbrev main_call2_c : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_cst : Ref sig .tc := ⟨.hbm, 33, rfl⟩
abbrev main_call2_v5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17_0 : Ref sig .tc := ⟨.hbm, 38, rfl⟩
abbrev main_v17_1 : Ref sig .tc := ⟨.hbm, 39, rfl⟩
abbrev main_v17_2 : Ref sig .tc := ⟨.hbm, 40, rfl⟩
abbrev main_v17_3 : Ref sig .tc := ⟨.hbm, 41, rfl⟩
abbrev main_v17_4 : Ref sig .tc := ⟨.hbm, 42, rfl⟩
abbrev main_v17_5 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference7Ideal.lean ====
abbrev S8192x256 : Shape := ⟨2, ![8192, 256]⟩
abbrev S8192x768 : Shape := ⟨2, ![8192, 768]⟩
abbrev S8192x1024 : Shape := ⟨2, ![8192, 1024]⟩
abbrev S3x6x1x1024 : Shape := ⟨4, ![3, 6, 1, 1024]⟩
abbrev S1024 : Shape := ⟨1, ![1024]⟩
abbrev S1x1024x1024 : Shape := ⟨3, ![1, 1024, 1024]⟩
abbrev S1x1024x8 : Shape := ⟨3, ![1, 1024, 8]⟩
abbrev S1x8 : Shape := ⟨2, ![1, 8]⟩
abbrev S1x1x1x1024 : Shape := ⟨4, ![1, 1, 1, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩

abbrev nBuf : Space → Nat
  | .hbm => 46
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x768, .bf16⟩
  | .hbm, ⟨2, _⟩ => ⟨S8192x1024, .f32⟩
  | .hbm, ⟨3, _⟩ => ⟨S3x6x1x1024, .f32⟩
  | .hbm, ⟨4, _⟩ => ⟨S1024, .f32⟩
  | .hbm, ⟨5, _⟩ => ⟨S1x1024x1024, .f32⟩
  | .hbm, ⟨6, _⟩ => ⟨S1x1024x8, .f32⟩
  | .hbm, ⟨7, _⟩ => ⟨S1x8, .f32⟩
  | .hbm, ⟨8, _⟩ => ⟨S1x1x1x1024, .f32⟩
  | .hbm, ⟨9, _⟩ => ⟨S1x1024, .f32⟩
  | .hbm, ⟨10, _⟩ => ⟨S1x1x1x1024, .f32⟩
  | .hbm, ⟨11, _⟩ => ⟨S1x1024, .f32⟩
  | .hbm, ⟨12, _⟩ => ⟨S1x1x1x1024, .f32⟩
  | .hbm, ⟨13, _⟩ => ⟨S1x1024, .f32⟩
  | .hbm, ⟨14, _⟩ => ⟨S8192x256, .f32⟩
  | .hbm, ⟨15, _⟩ => ⟨S8192x768, .f32⟩
  | .hbm, ⟨16, _⟩ => ⟨S8192x1024, .f32⟩
  | .hbm, ⟨17, _⟩ => ⟨S1024x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Proof.ExpertsStep.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic
public import Idealize.ShloMosaic.Lib.Pipeline.Frame
public import Idealize.ShloMosaic.Lib.VecWindow

@[expose] public section

/-! # What one grid point of the experts does

A grid point works on two blocks of 512 tokens with one expert. For each block it looks up how many of the
block's tokens the expert takes, and runs the expert on up to four groups of 128 of them, a group only when the
count exceeds what the groups before it hold. This module names the pieces as values, over any reading of the
element types, so that the same names serve the run of both programs. -/

noncomputable section

namespace Cert.Experts

open Cert.KernelIdeal Cert.KernelIdeal.Gen
open Idealize.ShloMosaic

variable {F : FTy → Type} [FloatOps F]

/-- The bit that says a count exceeds a bound. -/
def over (n k : BitVec 32) : BitVec 1 := Scalar.cmpi .ne (Scalar.extui (Scalar.cmpi .sgt n k)) 0#32

/-- Rows of ones and zeros: row `s` of the group that starts at slot `w` marks the token whose slot is `w + s`. -/
def gatherRows (w : BitVec 32) (slots : Vec F S1x1x512 .f32) : FVec F S128x512 .bf16 :=
  truncf .bf16
    (select
      (cmpf .oeq (broadcastTo S128x512 (shapeCast S1x512 slots shapeCasts_S1x1x512_S1x512) broadcasts_S1x512_S128x512)
        (addf (k0_pay23 (F := F)) (broadcast S128x512 (Scalar.ofBits .f32 w : F .f32))))
      (broadcast S128x512 (Scalar.ofBits .f32 0x3F800000#32 : F .f32))
      (broadcast S128x512 (Scalar.ofBits .f32 0x00000000#32 : F .f32)) : FVec F S128x512 .f32)
    bitsLt_bf16_f32

/-- The gated first layer of the expert on a group of 128 rows. -/
def gated (u : FVec F S128x1024 .bf16) (wg wu : Vec F S1x1024x1408 .bf16) : FVec F S128x1408 .bf16 :=
  let p : FVec F S128x1408 .f32 := matmul dot_S128x1024_S1024x1408_S128x1408_1_0_0_1_n_n none u
    (shapeCast S1024x1408 wg shapeCasts_S1x1024x1408_S1024x1408 : FVec F S1024x1408 .bf16) (constant S128x1408 .f32 0x00000000#32)
  let q : FVec F S128x1408 .f32 := matmul dot_S128x1024_S1024x1408_S128x1408_1_0_0_1_n_n none u
    (shapeCast S1024x1408 wu shapeCasts_S1x1024x1408_S1024x1408 : FVec F S1024x1408 .bf16) (constant S128x1408 .f32 0x00000000#32)
  let half : FVec F S128x1408 .f32 := broadcast S128x1408 (Scalar.ofBits .f32 0x3F000000#32 : F .f32)
  truncf .bf16 (mulf (mulf p (addf (mulf half (tanh (mulf half p))) half)) q) bitsLt_bf16_f32

/-- The expert's answers on the group that starts at slot `w`: gather, gated layer, down projection. -/
def answers (w : BitVec 32) (slots : Vec F S1x1x512 .f32) (h : Vec F S512x1024 .bf16) (wg wu : Vec F S1x1024x1408 .bf16)
    (wd : Vec F S1x1408x1024 .bf16) : FVec F S128x1024 .bf16 :=
  let u : FVec F S128x1024 .bf16 := truncf .bf16
    (matmul dot_S128x512_S512x1024_S128x1024_1_0_0_1_n_n none (gatherRows w slots) h (constant S128x1024 .f32 0x00000000#32) : FVec F S128x1024 .f32)
    bitsLt_bf16_f32
  truncf .bf16
    (matmul dot_S128x1408_S1408x1024_S128x1024_1_0_0_1_n_n none (gated u wg wu)
      (shapeCast S1408x1024 wd shapeCasts_S1x1408x1024_S1408x1024 : FVec F S1408x1024 .bf16) (constant S128x1024 .f32 0x00000000#32) : FVec F S128x1024 .f32)
    bitsLt_bf16_f32

/-- The lane of expert `e`. -/
def lane (e : BitVec 32) : IVec S512x128 1 :=
  cmpi .eq (iota .tc S512x128 32 [1] iota_S512x128_d1_w32) (broadcast S512x128 e)

/-- The column of lane `e` of a table of 128 lanes, as a sum over the lanes with the others set to zero. -/
def pick (e : BitVec 32) (t : Vec F S512x128 .f32) : FVec F S512x1 .f32 :=
  shapeCast S512x1
    (multiReduction .add [1] S512 (select (lane e) t (broadcast S512x128 (Scalar.ofBits .f32 0x00000000#32 : F .f32)) : Vec F S512x128 .f32)
      0x00000000#32 reduces_S512x128_S512 (.inl rfl) rfl : FVec F S512 .f32)
    shapeCasts_S512_S512x1

/-- A group's answers given back to the tokens, weighted and added to what the block holds. -/
def spread (w e : BitVec 32) (y : FVec F S128x1024 .bf16) (rank weight : Vec F S512x128 .f32) (a : Vec F S512x1024 .f32) :
    FVec F S512x1024 .f32 :=
  let back : FVec F S512x128 .bf16 := truncf .bf16
    (select
      (cmpf .oeq (broadcastTo S512x128 (pick e rank) broadcasts_S512x1_S512x128)
        (addf (k0_pay24 (F := F)) (broadcast S512x128 (Scalar.ofBits .f32 w : F .f32))))
      (broadcast S512x128 (Scalar.ofBits .f32 0x3F800000#32 : F .f32))
      (broadcast S512x128 (Scalar.ofBits .f32 0x00000000#32 : F .f32)) : FVec F S512x128 .f32)
    bitsLt_bf16_f32
  shapeCast S512x1024
    (addf a (mulf (broadcastTo S512x1024 (pick e weight) broadcasts_S512x1_S512x1024)
      (matmul dot_S512x128_S128x1024_S512x1024_1_0_0_1_n_n none back y (constant S512x1024 .f32 0x00000000#32) : FVec F S512x1024 .f32)))
    shapeCasts_S512x1024_S512x1024

/-- One group of one block. -/
def group (w e : BitVec 32) (slots : Vec F S1x1x512 .f32) (h : Vec F S512x1024 .bf16) (wg wu : Vec F S1x1024x1408 .bf16)
    (wd : Vec F S1x1408x1024 .bf16) (rank weight : Vec F S512x128 .f32) (a : Vec F S512x1024 .f32) : Vec F S512x1024 .f32 :=
  spread w e (answers w slots h wg wu wd) rank weight a

/-- `f` only when the bit is set. -/
def when (b : BitVec 1) (f : Vec F S512x1024 .f32 → Vec F S512x1024 .f32) (a : Vec F S512x1024 .f32) : Vec F S512x1024 .f32 :=
  if b = 1#1 then f a else a

/-- One block of 512 tokens: its groups in order, as many as the count asks for. -/
def block (n e : BitVec 32) (slots : Vec F S1x1x512 .f32) (h : Vec F S512x1024 .bf16) (wg wu : Vec F S1x1024x1408 .bf16)
    (wd : Vec F S1x1408x1024 .bf16) (rank weight : Vec F S512x128 .f32) (a : Vec F S512x1024 .f32) : Vec F S512x1024 .f32 :=
  when (over n 384#32) (group 0x43C00000#32 e slots h wg wu wd rank weight)
    (when (over n 256#32) (group 0x43800000#32 e slots h wg wu wd rank weight)
      (when (over n 128#32) (group 0x43000000#32 e slots h wg wu wd rank weight)
        (when (over n 0#32) (group 0x00000000#32 e slots h wg wu wd rank weight) a)))

/-- The count the table holds for the first block of grid point `i`. -/
def countTop (i : grid0.Coords) (T : Vec F S128 .i32) : BitVec 32 :=
  T ((Rect.unit (s := S128) (k0_off1 i) S1.size (k0_off1_inb i)).emb (Shape.Idx.first (numel1_S1.symm ▸ Nat.one_pos)))

/-- The count the table holds for the second block of grid point `i`. -/
def countBot (i : grid0.Coords) (T : Vec F S128 .i32) : BitVec 32 :=
  T ((Rect.unit (s := S128) (k0_off6 i) S1.size (k0_off6_inb i)).emb (Shape.Idx.first (numel1_S1.symm ▸ Nat.one_pos)))

/-- What the accumulator holds when the first block is taken up: zeros for the first expert. -/
def begun (i : grid0.Coords) (acc : Vec F S1024x1024 .f32) : Vec F S1024x1024 .f32 :=
  if Scalar.cmpi .ne (Scalar.extui (Scalar.cmpi .eq (BitVec.ofNat 32 (i 1).val) 0#32)) 0#32 = 1#1 then k0_pay22 (F := F) else acc

/-- The first block's rows worked on. -/
def workTop (i : grid0.Coords) (T : Vec F S128 .i32) (h : Vec F S1024x1024 .bf16) (weight rank : Vec F S1024x128 .f32) (slots : Vec F S2x8x512 .f32)
    (wg wu : Vec F S1x1024x1408 .bf16) (wd : Vec F S1x1408x1024 .bf16) (a : Vec F S1024x1024 .f32) : Vec F S1024x1024 .f32 :=
  VecWindow.put a ![0, 0] S512x1024.size
    (block (countTop i T) (BitVec.ofNat 32 (i 1).val) (VecWindow.window slots (k0_off2 i) S1x1x512.size (k0_off2_inb i))
      (VecWindow.window h ![0, 0] S512x1024.size inb_S1024x1024_S512x1024_0_0) wg wu wd
      (VecWindow.window rank ![0, 0] S512x128.size inb_S1024x128_S512x128_0_0)
      (VecWindow.window weight ![0, 0] S512x128.size inb_S1024x128_S512x128_0_0)
      (VecWindow.window a ![0, 0] S512x1024.size inb_S1024x1024_S512x1024_0_0))

/-- The second block's rows worked on. -/
def workBot (i : grid0.Coords) (T : Vec F S128 .i32) (h : Vec F S1024x1024 .bf16) (weight rank : Vec F S1024x128 .f32) (slots : Vec F S2x8x512 .f32)
    (wg wu : Vec F S1x1024x1408 .bf16) (wd : Vec F S1x1408x1024 .bf16) (a : Vec F S1024x1024 .f32) : Vec F S1024x1024 .f32 :=
  VecWindow.put a ![512, 0] S512x1024.size
    (block (countBot i T) (BitVec.ofNat 32 (i 1).val) (VecWindow.window slots (k0_off7 i) S1x1x512.size (k0_off7_inb i))
      (VecWindow.window h ![512, 0] S512x1024.size inb_S1024x1024_S512x1024_512_0) wg wu wd
      (VecWindow.window rank ![512, 0] S512x128.size inb_S1024x128_S512x128_512_0)
      (VecWindow.window weight ![512, 0] S512x128.size inb_S1024x128_S512x128_512_0)
      (VecWindow.window a ![512, 0] S512x1024.size inb_S1024x1024_S512x1024_512_0))

/-- The accumulator after grid point `i`: begun, then each half worked on. -/
def next (i : grid0.Coords) (T : Vec F S128 .i32) (h : Vec F S1024x1024 .bf16) (weight rank : Vec F S1024x128 .f32) (slots : Vec F S2x8x512 .f32)
    (wg wu : Vec F S1x1024x1408 .bf16) (wd : Vec F S1x1408x1024 .bf16) (acc : Vec F S1024x1024 .f32) : Vec F S1024x1024 .f32 :=
  workBot i T h weight rank slots wg wu wd (workTop i T h weight rank slots wg wu wd (begun i acc))

/-- The result's block after grid point `i`: the normed sum at the last expert, what it held before then. -/
def emit (i : grid0.Coords) (x : Vec F S1024x1024 .f32) (gate : Vec F S1x1x1024 .f32) (gain : Vec F S1x1024 .f32)
    (acc o : Vec F S1024x1024 .f32) : Vec F S1024x1024 .f32 :=
  if k0_cond10 i = 1#1 then k0_pay5 x gate acc gain else o

/-- Putting back the window read changes nothing. -/
theorem put_window {s : Shape} {α : Type} (x : s.Idx → α) (off size : Fin s.rank → ℕ) (inb : ∀ a, off a + size a ≤ s.size a) :
    VecWindow.put x off size (VecWindow.window x off size inb) = x := by
  funext y
  unfold VecWindow.put VecWindow.window
  split
  · rename_i h
    refine congrArg x (funext fun a => Fin.ext ?_)
    show off a + 1 * ((y a).val - off a) = (y a).val
    have := h a
    omega
  · rfl

section Reads

variable {sig : RefSig} {κ : Kind} {sp : Space} {s : Shape}

/-- A store under a condition, over contents that read as `x` with `u` in the stored window. -/
theorem read_store {v : View sig κ sp S1024x1024 .f32} {G : v.ty.Contents (Elt F)} {off : Fin S1024x1024.rank → ℕ}
    {inb : ∀ a, off a + S512x1024.size a ≤ S1024x1024.size a} {b : BitVec 1} {w : Vec F S512x1024 .f32} {x : Vec F S1024x1024 .f32} {u : Vec F S512x1024 .f32}
    (f : Vec F S512x1024 .f32 → Vec F S512x1024 .f32)
    (hw : w = f (v.readAt (Elt F) (Rect.unit off S512x1024.size inb).toLoadRect G)) (hG : v.read (Elt F) G = VecWindow.put x off S512x1024.size u) :
    v.read (Elt F) (if _h : b = 1#1 then v.writes (Elt F) G [⟨Rect.unit off S512x1024.size inb, w⟩] else G)
      = VecWindow.put x off S512x1024.size (when b f u) := by
  unfold when
  split
  · rw [View.read_writes_cons_put v G inb w [] rfl, View.writes_nil, hG, VecWindow.put_put_same, hw,
      View.readAt_unit v G inb rfl inb, hG, VecWindow.window_put_same]
  · exact hG

/-- A store of the whole buffer under a condition. -/
theorem read_fill {v : View sig κ sp s .f32} {G : v.ty.Contents (Elt F)} {off : Fin s.rank → ℕ} {inb : ∀ a, off a + s.size a ≤ s.size a} {b : BitVec 1}
    {w w' u : Vec F s .f32} (hG : v.read (Elt F) G = u) (hw : w = w') :
    v.read (Elt F) (if _h : b = 1#1 then v.writes (Elt F) G [⟨Rect.unit off s.size inb, w⟩] else G) = if b = 1#1 then w' else u := by
  split
  · rw [View.read_writes_full, hw]
  · exact hG

end Reads

end Cert.Experts

end
-- ==== Proof.ExpertsRun.lean ====
module

public import proofs.«01_k».proof.Proof.ExpertsStep

@[expose] public section

/-! # The experts' body, run once

The body of one grid point, from any contents of the windows: it gives every input back, and leaves in the
accumulator and in the result's window what the named values say. -/

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The model the run is over. -/
abbrev 𝕄 (F : FTy → Type) := MT nD τ sig Unit (Elt F) ℕ (UR sig nD τ) ℕ

/-- The last step's payload of equal parts. -/
theorem pay5_congr {x x' : Vec F S1024x1024 .f32} {g g' : Vec F S1x1x1024 .f32} {a a' : Vec F S1024x1024 .f32} {n n' : Vec F S1x1024 .f32}
    (hx : x = x') (hg : g = g') (ha : a = a') (hn : n = n') : k0_pay5 x g a n = k0_pay5 x' g' a' n' := by
  rw [hx, hg, ha, hn]

set_option maxHeartbeats 4000000 in
/-- The body at grid point `i`, over whole windows. -/
theorem body_run (c : Dev nD) (i : grid0.Coords) (arg2 : Memref sig .tc .smem S128 .i32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S2x8x512 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024x1408 .bf16) (harg10 : arg10.IsWhole) (arg11 : Memref sig .tc .vmem S1x1024x1408 .bf16) (harg11 : arg11.IsWhole) (arg12 : Memref sig .tc .vmem S1x1408x1024 .bf16) (harg12 : arg12.IsWhole) (arg13 : Memref sig .tc .vmem S1024x1024 .f32) (harg13 : arg13.IsWhole) (arg14 : Memref sig .tc .vmem S1024x1024 .f32) (harg14 : arg14.IsWhole)
    (T : Vec F S128 .i32) (x3 : Vec F S1024x1024 .f32) (x4 : Vec F S1024x1024 .bf16) (x5 x6 : Vec F S1024x128 .f32) (x7 : Vec F S2x8x512 .f32)
    (x8 : Vec F S1x1x1024 .f32) (x9 : Vec F S1x1024 .f32) (x10 x11 : Vec F S1x1024x1408 .bf16) (x12 : Vec F S1x1408x1024 .bf16) (o acc : Vec F S1024x1024 .f32)
    (E : Set ℕ) (K : PUnit → sProp (𝕄 F)) :
    iprop(owns (c : Thread nD τ) arg2 fullShare.right T ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare o ∗ owns (c : Thread nD τ) arg14 fullShare acc ∗
      (owns (c : Thread nD τ) arg2 fullShare.right T ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (emit i x3 x8 x9 (next i T x4 x5 x6 x7 x10 x11 x12 acc) o) ∗ owns (c : Thread nD τ) arg14 fullShare (next i T x4 x5 x6 x7 x10 x11 x12 acc) -∗ K ⟨⟩))
      ⊢ wp frame (wpE (defs₀ (F := F)) Variants.none c none) E (cc0_moe_experts i arg2 harg2 arg3 harg3 arg4 harg4 arg5 harg5 arg6 harg6 arg7 harg7 arg8 harg8 arg9 harg9 arg10 harg10 arg11 harg11 arg12 harg12 arg13 harg13 arg14 harg14) K := by
  simp only [cc0_moe_experts_eq_skeleton]; unfold cc0_moe_experts_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf2; subst hf3; subst hf4; subst hf5; subst hf6; subst hf7; subst hf8; subst hf9; subst hf10; subst hf11; subst hf12; subst hf13; subst hf14
  sl_exec
  sl_step
  iapply Hk
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; rfl
  isplitl [H13]
  · iexists _; isplitr
    swap; · iexact H13
    ipureintro
    refine read_fill rfl ?_
    refine pay5_congr (View.readAt_full _ _ _) (View.readAt_full _ _ _) ?_ (View.readAt_full _ _ _)
    refine Eq.trans (View.readAt_full arg14.view _ inb_S1024x1024_S1024x1024_0_0) ?_
    have h10 : View.readAt (Elt F) arg10.view (Rect.unit ![0, 0, 0] S1x1024x1408.size inb_S1x1024x1408_S1x1024x1408_0_0_0).toLoadRect f10 = arg10.view.read (Elt F) f10 := View.readAt_full _ _ _
    have h11 : View.readAt (Elt F) arg11.view (Rect.unit ![0, 0, 0] S1x1024x1408.size inb_S1x1024x1408_S1x1024x1408_0_0_0).toLoadRect f11 = arg11.view.read (Elt F) f11 := View.readAt_full _ _ _
    have h12 : View.readAt (Elt F) arg12.view (Rect.unit ![0, 0, 0] S1x1408x1024.size inb_S1x1408x1024_S1x1408x1024_0_0_0).toLoadRect f12 = arg12.view.read (Elt F) f12 := View.readAt_full _ _ _
    rw [← h10, ← h11, ← h12]
    unfold next workBot block
    refine read_store _ ?_ (read_store _ ?_ (read_store _ ?_ (read_store _ ?_ (Eq.trans ?_ (put_window _ _ _ _).symm))))
    rotate_left 4
    · unfold workTop block
      refine read_store _ ?_ (read_store _ ?_ (read_store _ ?_ (read_store _ ?_ (Eq.trans ?_ (put_window _ _ _ _).symm))))
      rotate_left 4
      · exact read_fill rfl rfl
      all_goals rfl
    all_goals rfl
  iexists _; isplitr
  swap; · iexact H14
  ipureintro
  have h10 : View.readAt (Elt F) arg10.view (Rect.unit ![0, 0, 0] S1x1024x1408.size inb_S1x1024x1408_S1x1024x1408_0_0_0).toLoadRect f10 = arg10.view.read (Elt F) f10 := View.readAt_full _ _ _
  have h11 : View.readAt (Elt F) arg11.view (Rect.unit ![0, 0, 0] S1x1024x1408.size inb_S1x1024x1408_S1x1024x1408_0_0_0).toLoadRect f11 = arg11.view.read (Elt F) f11 := View.readAt_full _ _ _
  have h12 : View.readAt (Elt F) arg12.view (Rect.unit ![0, 0, 0] S1x1408x1024.size inb_S1x1408x1024_S1x1408x1024_0_0_0).toLoadRect f12 = arg12.view.read (Elt F) f12 := View.readAt_full _ _ _
  rw [← h10, ← h11, ← h12]
  unfold next workBot block
  refine read_store _ ?_ (read_store _ ?_ (read_store _ ?_ (read_store _ ?_ (Eq.trans ?_ (put_window _ _ _ _).symm))))
  rotate_left 4
  · unfold workTop block
    refine read_store _ ?_ (read_store _ ?_ (read_store _ ?_ (read_store _ ?_ (Eq.trans ?_ (put_window _ _ _ _).symm))))
    rotate_left 4
    · exact read_fill rfl rfl
    all_goals rfl
  all_goals rfl

end Cert.Experts

end
-- ==== Proof.ExpertsLaunch.lean ====
module

public import proofs.«01_k».proof.Proof.ExpertsRun
public import Idealize.ShloMosaic.Lib.Pipeline.FrameBody
public import Idealize.ShloMosaic.Lib.Claim

@[expose] public section

/-! # The experts' call, run from its launch

What every window holds at each grid point, what the accumulator carries from one point to the next, and the run of
the whole program over any values: the result's array ends at what the points leave, everything else as found. -/

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]
variable (m : (ℓ : Loc nD τ sig) → Buf (Elt F) ℓ) (ρ : Dev nD → PrngReg)

/-! ## The host's part -/

/-- A core's buffers once the host has prepared the call's operands. -/
abbrev V (c : Dev nD) (b : Ref sig .tc) : Buf (Elt F) ((c : Thread nD τ).loc b) := StableHlo.after hostOps0 (fun b => m (c, b)) b

/-- Every host operation defines all it reads from. -/
theorem host_fresh : (hostOps0 : List (HloOp τ sig (Elt F))).Forall fun op => op.fresh = ∅ := by
  simp only [List.Forall]; repeat' constructor

/-- The host writes its own results only: any other buffer is found as launched. -/
theorem V_kept (c : Dev nD) (b : Ref sig .tc)
    (hb : b ∉ [main_v0, main_v1, main_v2, main_v3, main_v4, main_v5, main_v6, main_v7, main_v8, main_v9, main_v10]) :
    V m c b = m ((c : Thread nD τ).loc b) := by
  simp only [List.mem_cons, List.not_mem_nil, or_false, not_or] at hb
  obtain ⟨h0, h1, h2, h3, h4, h5, h6, h7, h8, h9, h10⟩ := hb
  refine StableHlo.after_of_forall_not_mem (b := Proc.devRef .tc b) _ _ (List.forall_iff_forall_mem.mp ?_)
  simp only [hostOps0, List.Forall, StableHlo.unary_writes, StableHlo.reshape_writes, Finset.mem_singleton]
  refine ⟨?_, ?_, ?_, ?_, ?_, ?_, ?_, ?_, ?_, ?_, ?_⟩
  all_goals exact StableHlo.devRef_ne_of_ne (by assumption)

/-- The table of counts as the host leaves it, the same for every core. -/
def table : (p : Fin 1) → (pcfgs (F := F) p).Adm := fun p => match p with
  | ⟨0, _⟩ => ⟨fun k => V m 0 (pre0.ref k), trivial⟩

/-- The pipeline at that table. -/
abbrev cfgT : Pipeline.Cfg sig Λ₀ := Pipeline.pin (pcfgs (F := F)) (table m) 0

/-! ## What the points work on -/

/-- The part of window `w`'s array that point `t` sees. -/
def part (c : Dev nD) (w : Fin 11) (t : Fin grid0.N) :
    (((cfgT m).win w).xblock (grid0.coords t)).Idx → Elt F ((cfgT m).win w).elt :=
  (((cfgT m).win w).blk t).view.read (Elt F) (V m c (Pipeline.arrRef spec0 w))

/-- The accumulator after the first `n` points (what it held at the launch is never read). -/
def carry (c : Dev nD) : ℕ → Vec F S1024x1024 .f32
  | 0 => k0_pay22 (F := F)
  | n + 1 =>
    if h : n < grid0.N then
      next (grid0.coords ⟨n, h⟩) (V m c main_v9) (part m c 1 ⟨n, h⟩) (part m c 2 ⟨n, h⟩) (part m c 3 ⟨n, h⟩) (part m c 4 ⟨n, h⟩)
        (part m c 7 ⟨n, h⟩) (part m c 8 ⟨n, h⟩) (part m c 9 ⟨n, h⟩) (carry c n)
    else carry c n

theorem carry_succ (c : Dev nD) (t : Fin grid0.N) :
    carry m c (t.val + 1) = next (grid0.coords t) (V m c main_v9) (part m c 1 t) (part m c 2 t) (part m c 3 t) (part m c 4 t)
        (part m c 7 t) (part m c 8 t) (part m c 9 t) (carry m c t.val) := by
  rw [carry, dif_pos t.isLt]

/-- The first point forgets what the accumulator held. -/
theorem begun_first (t : Fin grid0.N) (ht : t.val = 0) (a b : Vec F S1024x1024 .f32) :
    begun (grid0.coords t) a = begun (grid0.coords t) b := by
  obtain rfl : t = ⟨0, by decide⟩ := Fin.ext ht
  unfold begun
  rw [if_pos (by decide +kernel), if_pos (by decide +kernel)]

theorem emit_last {i : grid0.Coords} (h : k0_cond10 i = 1#1) (x : Vec F S1024x1024 .f32) (gate : Vec F S1x1x1024 .f32) (gain : Vec F S1x1024 .f32)
    (acc o : Vec F S1024x1024 .f32) : emit i x gate gain acc o = k0_pay5 x gate acc gain := if_pos h

theorem emit_other {i : grid0.Coords} (h : ¬ k0_cond10 i = 1#1) (x : Vec F S1024x1024 .f32) (gate : Vec F S1x1x1024 .f32) (gain : Vec F S1x1024 .f32)
    (acc o : Vec F S1024x1024 .f32) : emit i x gate gain acc o = o := if_neg h

/-- What the result's window holds after point `t` where the point writes it. -/
def done (c : Dev nD) (t : Fin grid0.N) : Vec F S1024x1024 .f32 :=
  k0_pay5 (part m c 0 t) (part m c 5 t) (carry m c (t.val + 1)) (part m c 6 t)

/-- The accumulator's buffer. -/
abbrev scr : Memref sig .tc .vmem S1024x1024 .f32 := Memref.whole cc0_scratch0

/-- What holds between points: the accumulator carries the sum so far, the table is at hand. -/
def inv (c : Dev nD) (n : ℕ) : sProp (𝕄 F) :=
  iprop(∃ d : Vec F S1024x1024 .f32, ⌜n ≠ 0 → d = carry m c n⌝ ∗ owns (c : Thread nD τ) scr fullShare d
    ∗ (∃ r, prngReg c r) ∗ owns (c : Thread nD τ) (Memref.whole main_v9) fullShare.right (V m c main_v9))

/-- The proof data of the call. -/
def dats (p : Fin 1) (c : Dev nD) : Dat τ (Elt F) Unit ℕ (UR sig nD τ) ℕ (Pipeline.pin (pcfgs (F := F)) (table m) p) c := match p with
  | ⟨0, _⟩ => {
    A := fun w => V m c (Pipeline.arrRef spec0 w)
    after := fun w t => match w with
      | ⟨0, _⟩ => part m c 0 t
      | ⟨1, _⟩ => part m c 1 t
      | ⟨2, _⟩ => part m c 2 t
      | ⟨3, _⟩ => part m c 3 t
      | ⟨4, _⟩ => part m c 4 t
      | ⟨5, _⟩ => part m c 5 t
      | ⟨6, _⟩ => part m c 6 t
      | ⟨7, _⟩ => part m c 7 t
      | ⟨8, _⟩ => part m c 8 t
      | ⟨9, _⟩ => part m c 9 t
      | ⟨10, _⟩ => done m c t
    Φ := fun t => inv m c t.val
    q := fun _ => fullShare
    owed := fun _ => 0 }

theorem A_eq (c : Dev nD) (w : Fin 11) : (dats m 0 c).A w = V m c (Pipeline.arrRef spec0 w) := by
  dsimp only [dats]

theorem after_0 (c : Dev nD) (t : Fin grid0.N) : (dats m 0 c).after 0 t = part m c 0 t := rfl
theorem after_1 (c : Dev nD) (t : Fin grid0.N) : (dats m 0 c).after 1 t = part m c 1 t := rfl
theorem after_2 (c : Dev nD) (t : Fin grid0.N) : (dats m 0 c).after 2 t = part m c 2 t := rfl
theorem after_3 (c : Dev nD) (t : Fin grid0.N) : (dats m 0 c).after 3 t = part m c 3 t := rfl
theorem after_4 (c : Dev nD) (t : Fin grid0.N) : (dats m 0 c).after 4 t = part m c 4 t := rfl
theorem after_5 (c : Dev nD) (t : Fin grid0.N) : (dats m 0 c).after 5 t = part m c 5 t := rfl
theorem after_6 (c : Dev nD) (t : Fin grid0.N) : (dats m 0 c).after 6 t = part m c 6 t := rfl
theorem after_7 (c : Dev nD) (t : Fin grid0.N) : (dats m 0 c).after 7 t = part m c 7 t := rfl
theorem after_8 (c : Dev nD) (t : Fin grid0.N) : (dats m 0 c).after 8 t = part m c 8 t := rfl
theorem after_9 (c : Dev nD) (t : Fin grid0.N) : (dats m 0 c).after 9 t = part m c 9 t := rfl
theorem after_10 (c : Dev nD) (t : Fin grid0.N) : (dats m 0 c).after 10 t = done m c t := rfl

/-! Every input's window holds its part at every point. -/

theorem before_0 (c : Dev nD) (t : Fin grid0.N) (d) : (dats m 0 c).before 0 t d = part m c 0 t :=
  ((dats m 0 c).before_in_eq_fetched 0 rfl (fun _ => rfl) (fun _ _ _ => rfl)
    (fun t => by rw [after_0]; unfold Dat.blockOf part; rw [A_eq]; try rfl) t d).trans
    (by unfold Dat.fetched Dat.blockOf part; rw [A_eq]; try rfl)
theorem before_1 (c : Dev nD) (t : Fin grid0.N) (d) : (dats m 0 c).before 1 t d = part m c 1 t :=
  ((dats m 0 c).before_in_eq_fetched 1 rfl (fun _ => rfl) (fun _ _ _ => rfl)
    (fun t => by rw [after_1]; unfold Dat.blockOf part; rw [A_eq]; try rfl) t d).trans
    (by unfold Dat.fetched Dat.blockOf part; rw [A_eq]; try rfl)
theorem before_2 (c : Dev nD) (t : Fin grid0.N) (d) : (dats m 0 c).before 2 t d = part m c 2 t :=
  ((dats m 0 c).before_in_eq_fetched 2 rfl (fun _ => rfl) (fun _ _ _ => rfl)
    (fun t => by rw [after_2]; unfold Dat.blockOf part; rw [A_eq]; try rfl) t d).trans
    (by unfold Dat.fetched Dat.blockOf part; rw [A_eq]; try rfl)
theorem before_3 (c : Dev nD) (t : Fin grid0.N) (d) : (dats m 0 c).before 3 t d = part m c 3 t :=
  ((dats m 0 c).before_in_eq_fetched 3 rfl (fun _ => rfl) (fun _ _ _ => rfl)
    (fun t => by rw [after_3]; unfold Dat.blockOf part; rw [A_eq]; try rfl) t d).trans
    (by unfold Dat.fetched Dat.blockOf part; rw [A_eq]; try rfl)
theorem before_4 (c : Dev nD) (t : Fin grid0.N) (d) : (dats m 0 c).before 4 t d = part m c 4 t :=
  ((dats m 0 c).before_in_eq_fetched 4 rfl (fun _ => rfl) (fun _ _ _ => rfl)
    (fun t => by rw [after_4]; unfold Dat.blockOf part; rw [A_eq]; try rfl) t d).trans
    (by unfold Dat.fetched Dat.blockOf part; rw [A_eq]; try rfl)
theorem before_5 (c : Dev nD) (t : Fin grid0.N) (d) : (dats m 0 c).before 5 t d = part m c 5 t :=
  ((dats m 0 c).before_in_eq_fetched 5 rfl (fun _ => rfl) (fun _ _ _ => rfl)
    (fun t => by rw [after_5]; unfold Dat.blockOf part; rw [A_eq]; try rfl) t d).trans
    (by unfold Dat.fetched Dat.blockOf part; rw [A_eq]; try rfl)
theorem before_6 (c : Dev nD) (t : Fin grid0.N) (d) : (dats m 0 c).before 6 t d = part m c 6 t :=
  ((dats m 0 c).before_in_eq_fetched 6 rfl (fun _ => rfl) (fun _ _ _ => rfl)
    (fun t => by rw [after_6]; unfold Dat.blockOf part; rw [A_eq]; try rfl) t d).trans
    (by unfold Dat.fetched Dat.blockOf part; rw [A_eq]; try rfl)
theorem before_7 (c : Dev nD) (t : Fin grid0.N) (d) : (dats m 0 c).before 7 t d = part m c 7 t :=
  ((dats m 0 c).before_in_eq_fetched 7 rfl (fun _ => rfl) (fun _ _ _ => rfl)
    (fun t => by rw [after_7]; unfold Dat.blockOf part; rw [A_eq]; try rfl) t d).trans
    (by unfold Dat.fetched Dat.blockOf part; rw [A_eq]; try rfl)
theorem before_8 (c : Dev nD) (t : Fin grid0.N) (d) : (dats m 0 c).before 8 t d = part m c 8 t :=
  ((dats m 0 c).before_in_eq_fetched 8 rfl (fun _ => rfl) (fun _ _ _ => rfl)
    (fun t => by rw [after_8]; unfold Dat.blockOf part; rw [A_eq]; try rfl) t d).trans
    (by unfold Dat.fetched Dat.blockOf part; rw [A_eq]; try rfl)
theorem before_9 (c : Dev nD) (t : Fin grid0.N) (d) : (dats m 0 c).before 9 t d = part m c 9 t :=
  ((dats m 0 c).before_in_eq_fetched 9 rfl (fun _ => rfl) (fun _ _ _ => rfl)
    (fun t => by rw [after_9]; unfold Dat.blockOf part; rw [A_eq]; try rfl) t d).trans
    (by unfold Dat.fetched Dat.blockOf part; rw [A_eq]; try rfl)

/-! ## The result's window between writes -/

/-- A point that is not a block's last leaves the result's window alone. -/
theorem idle_10 (t : Fin grid0.N) (h : ¬ k0_cond10 (grid0.coords t) = 1#1) : (cfgT m).idle 10 (grid0.coords t) = true := by
  show (!(k0_cond10 (grid0.coords t) == 1#1)) = true
  simp [h]

theorem live_10 (t : Fin grid0.N) (h : k0_cond10 (grid0.coords t) = 1#1) : (cfgT m).idle 10 (grid0.coords t) = false := by
  show (!(k0_cond10 (grid0.coords t) == 1#1)) = false
  simp [h]

/-- Such a point's window is not written back either: the next point works on the same block. -/
theorem kept_10 (t : Fin grid0.N) (h : ¬ k0_cond10 (grid0.coords t) = 1#1) : ((cfgT m).win 10).flush t = false := by
  have key : ∀ t : Fin grid0.N, ¬ k0_cond10 (grid0.coords t) = 1#1 →
      (true && (decide (t.val + 1 = grid0.N) || decide (∃ h : t.val + 1 < grid0.N, cc0_transform_10 (grid0.coords ⟨t.val + 1, h⟩) ≠ cc0_transform_10 (grid0.coords t)))) = false := by
    decide +kernel
  exact key t h

/-! ## The body at a point -/

/-- The body's call at point `t`. -/
def callAt (t : Fin grid0.N) : Prog (TpuEff nD τ sig (Elt F) Λ₀ .tc) PUnit :=
  cc0_moe_experts (grid0.coords t) (Memref.whole main_v9) (Memref.isWhole_whole _) (spec0_0.stage ((cfgT m).slots t 0)) (hstage0_0 (((cfgT m).slots t 0).cast nbuf0_0)) (spec0_1.stage ((cfgT m).slots t 1)) (hstage0_1 (((cfgT m).slots t 1).cast nbuf0_1)) (spec0_2.stage ((cfgT m).slots t 2)) (hstage0_2 (((cfgT m).slots t 2).cast nbuf0_2)) (spec0_3.stage ((cfgT m).slots t 3)) (hstage0_3 (((cfgT m).slots t 3).cast nbuf0_3)) (spec0_4.stage ((cfgT m).slots t 4)) (hstage0_4 (((cfgT m).slots t 4).cast nbuf0_4)) (spec0_5.stage ((cfgT m).slots t 5)) (hstage0_5 (((cfgT m).slots t 5).cast nbuf0_5)) (spec0_6.stage ((cfgT m).slots t 6)) (hstage0_6 (((cfgT m).slots t 6).cast nbuf0_6)) (spec0_7.stage ((cfgT m).slots t 7)) (hstage0_7 (((cfgT m).slots t 7).cast nbuf0_7)) (spec0_8.stage ((cfgT m).slots t 8)) (hstage0_8 (((cfgT m).slots t 8).cast nbuf0_8)) (spec0_9.stage ((cfgT m).slots t 9)) (hstage0_9 (((cfgT m).slots t 9).cast nbuf0_9)) (spec0_10.stage ((cfgT m).slots t 10)) (hstage0_10 (((cfgT m).slots t 10).cast nbuf0_10)) scr (Memref.isWhole_whole _)

theorem call_row (t : Fin grid0.N) : defs₀ (F := F) .tc (cfgT m).body ((cfgT m).bodyArgs t ((cfgT m).slots t)) = callAt m t := by
  unfold defs₀; rw [Defs.onTc_tc]; rfl

/-- An input's window is handed back at its part. -/
theorem leaves_0 (c : Dev nD) (t : Fin grid0.N) : (dats m 0 c).leavesExact 0 t = owns (c : Thread nD τ) (spec0_0.stage ((cfgT m).slots t 0)) fullShare (part m c 0 t) := by
  rw [← after_0]; rfl
theorem leaves_1 (c : Dev nD) (t : Fin grid0.N) : (dats m 0 c).leavesExact 1 t = owns (c : Thread nD τ) (spec0_1.stage ((cfgT m).slots t 1)) fullShare (part m c 1 t) := by
  rw [← after_1]; rfl
theorem leaves_2 (c : Dev nD) (t : Fin grid0.N) : (dats m 0 c).leavesExact 2 t = owns (c : Thread nD τ) (spec0_2.stage ((cfgT m).slots t 2)) fullShare (part m c 2 t) := by
  rw [← after_2]; rfl
theorem leaves_3 (c : Dev nD) (t : Fin grid0.N) : (dats m 0 c).leavesExact 3 t = owns (c : Thread nD τ) (spec0_3.stage ((cfgT m).slots t 3)) fullShare (part m c 3 t) := by
  rw [← after_3]; rfl
theorem leaves_4 (c : Dev nD) (t : Fin grid0.N) : (dats m 0 c).leavesExact 4 t = owns (c : Thread nD τ) (spec0_4.stage ((cfgT m).slots t 4)) fullShare (part m c 4 t) := by
  rw [← after_4]; rfl
theorem leaves_5 (c : Dev nD) (t : Fin grid0.N) : (dats m 0 c).leavesExact 5 t = owns (c : Thread nD τ) (spec0_5.stage ((cfgT m).slots t 5)) fullShare (part m c 5 t) := by
  rw [← after_5]; rfl
theorem leaves_6 (c : Dev nD) (t : Fin grid0.N) : (dats m 0 c).leavesExact 6 t = owns (c : Thread nD τ) (spec0_6.stage ((cfgT m).slots t 6)) fullShare (part m c 6 t) := by
  rw [← after_6]; rfl
theorem leaves_7 (c : Dev nD) (t : Fin grid0.N) : (dats m 0 c).leavesExact 7 t = owns (c : Thread nD τ) (spec0_7.stage ((cfgT m).slots t 7)) fullShare (part m c 7 t) := by
  rw [← after_7]; rfl
theorem leaves_8 (c : Dev nD) (t : Fin grid0.N) : (dats m 0 c).leavesExact 8 t = owns (c : Thread nD τ) (spec0_8.stage ((cfgT m).slots t 8)) fullShare (part m c 8 t) := by
  rw [← after_8]; rfl
theorem leaves_9 (c : Dev nD) (t : Fin grid0.N) : (dats m 0 c).leavesExact 9 t = owns (c : Thread nD τ) (spec0_9.stage ((cfgT m).slots t 9)) fullShare (part m c 9 t) := by
  rw [← after_9]; rfl

set_option maxHeartbeats 1600000 in
/-- The body at point `t`: from what the windows hold there to what they hold after it. -/
theorem point_run (c : Dev nD) (t : Fin grid0.N) :
    iprop((dats m 0 c).Φ t.castSucc ∗ (dats m 0 c).owesAt () t.castSucc ∗ (∃ d, owns (c : Thread nD τ) (spec0_0.stage ((cfgT m).slots t 0)) fullShare ((dats m 0 c).before 0 t d)) ∗ (∃ d, owns (c : Thread nD τ) (spec0_1.stage ((cfgT m).slots t 1)) fullShare ((dats m 0 c).before 1 t d)) ∗ (∃ d, owns (c : Thread nD τ) (spec0_2.stage ((cfgT m).slots t 2)) fullShare ((dats m 0 c).before 2 t d)) ∗ (∃ d, owns (c : Thread nD τ) (spec0_3.stage ((cfgT m).slots t 3)) fullShare ((dats m 0 c).before 3 t d)) ∗ (∃ d, owns (c : Thread nD τ) (spec0_4.stage ((cfgT m).slots t 4)) fullShare ((dats m 0 c).before 4 t d)) ∗ (∃ d, owns (c : Thread nD τ) (spec0_5.stage ((cfgT m).slots t 5)) fullShare ((dats m 0 c).before 5 t d)) ∗ (∃ d, owns (c : Thread nD τ) (spec0_6.stage ((cfgT m).slots t 6)) fullShare ((dats m 0 c).before 6 t d)) ∗ (∃ d, owns (c : Thread nD τ) (spec0_7.stage ((cfgT m).slots t 7)) fullShare ((dats m 0 c).before 7 t d)) ∗ (∃ d, owns (c : Thread nD τ) (spec0_8.stage ((cfgT m).slots t 8)) fullShare ((dats m 0 c).before 8 t d)) ∗ (∃ d, owns (c : Thread nD τ) (spec0_9.stage ((cfgT m).slots t 9)) fullShare ((dats m 0 c).before 9 t d)) ∗ (∃ d, owns (c : Thread nD τ) (spec0_10.stage ((cfgT m).slots t 10)) fullShare ((dats m 0 c).before 10 t d)))
      ⊢ wp frame (wpE (defs₀ (F := F)) Variants.none c none) Set.univ (callAt m t) fun _ =>
        (iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t) : sProp (𝕄 F)) := by
  rw [show (dats m 0 c).Φ t.castSucc = inv m c t.val from rfl, show (dats m 0 c).Φ t.succ = inv m c (t.val + 1) from rfl,
    show (dats m 0 c).owesAt () t.succ = (dats m 0 c).owesAt () t.castSucc from rfl]
  simp only [before_0, leaves_0, before_1, leaves_1, before_2, leaves_2, before_3, leaves_3, before_4, leaves_4, before_5, leaves_5, before_6, leaves_6, before_7, leaves_7, before_8, leaves_8, before_9, leaves_9]
  unfold inv callAt
  iintro ⟨⟨%d, %hd, HS, Hg, HT⟩, Hw, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hn : next (grid0.coords t) (V m c main_v9) (part m c 1 t) (part m c 2 t) (part m c 3 t) (part m c 4 t)
      (part m c 7 t) (part m c 8 t) (part m c 9 t) d = carry m c (t.val + 1) := by
    rw [carry_succ]
    by_cases h0 : t.val = 0
    · unfold next; rw [begun_first t h0 d (carry m c t.val)]
    · rw [hd h0]
  obtain ⟨X, hX⟩ : ∃ X, emit (grid0.coords t) (part m c 0 t) (part m c 5 t) (part m c 6 t) (carry m c (t.val + 1)) ((dats m 0 c).before 10 t d10) = X :=
    ⟨_, rfl⟩
  iapply (body_run c (grid0.coords t) _ _ _ _ _ _ _ _ _ _ _ _ _ _ _ _ _ _ _ _ _ _ _ _ _ _ (V m c main_v9) (part m c 0 t) (part m c 1 t) (part m c 2 t) (part m c 3 t)
    (part m c 4 t) (part m c 5 t) (part m c 6 t) (part m c 7 t) (part m c 8 t) (part m c 9 t) ((dats m 0 c).before 10 t d10) d Set.univ _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  rw [hn, hX]
  iintro ⟨HT, H0, H1, H2, H3, H4, H5, H6, H7, H8, H9, H10, HS⟩
  isplitl [HT HS Hg]
  · iexists _; isplitr
    swap
    · isplitl [HS]; · iexact HS
      isplitl [Hg]; · iexact Hg
      iexact HT
    ipureintro; exact fun _ => rfl
  isplitl [Hw]; · iexact Hw
  isplitl [H0]; · rw [leaves_0]; iexact H0
  isplitl [H1]; · rw [leaves_1]; iexact H1
  isplitl [H2]; · rw [leaves_2]; iexact H2
  isplitl [H3]; · rw [leaves_3]; iexact H3
  isplitl [H4]; · rw [leaves_4]; iexact H4
  isplitl [H5]; · rw [leaves_5]; iexact H5
  isplitl [H6]; · rw [leaves_6]; iexact H6
  isplitl [H7]; · rw [leaves_7]; iexact H7
  isplitl [H8]; · rw [leaves_8]; iexact H8
  isplitl [H9]; · rw [leaves_9]; iexact H9
  by_cases hc : k0_cond10 (grid0.coords t) = 1#1
  · have e : (dats m 0 c).leavesExact 10 t = owns (c : Thread nD τ) (spec0_10.stage ((cfgT m).slots t 10)) fullShare (done m c t) := by
      rw [← after_10]; unfold Dat.leavesExact; rw [live_10 m t hc]; rfl
    obtain rfl := hX.symm.trans (emit_last hc _ _ _ _ _)
    rw [e]; iexact H10
  · rw [(dats m 0 c).leavesExact_idle 10 t (idle_10 m t hc) (kept_10 m t hc)]
    obtain rfl := hX.symm.trans (emit_other hc _ _ _ _ _)
    iexists d10; iexact H10

/-- The body's obligation at every point. -/
theorem obligation (c : Dev nD) : BodyObligation (dats (F := F) m 0 c) (defs₀ (F := F)) Variants.none () Set.univ := fun t => by
  rw [bigSep_W0, bigSep_W0, call_row]
  exact triple_restated (point_run m c t) rfl .rfl fun _ => .rfl

/-! ## The run -/

/-- The program is the host's part, then the call. -/
theorem main_host : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub host_fresh main_chain

theorem enter (c : Dev nD) : iprop(Pipeline.ΦA spec0 c ∗ Pipeline.ΦT pre0 (table (F := F) m 0).1 c) ⊢ ((dats m 0 c).Φ 0 : sProp (𝕄 F)) := by
  rw [show (dats m 0 c).Φ 0 = inv m c 0 from rfl]
  unfold inv Pipeline.ΦA; rw [scopedRest0_eq]
  obtain rfl : c = 0 := Subsingleton.elim _ _
  have hT : (Pipeline.ΦT pre0 (table (F := F) m 0).1 0 : sProp (𝕄 F)) = owns (((0 : Dev nD)) : Thread nD τ) (Memref.whole main_v9) fullShare.right (V m 0 main_v9) := by
    rw [owns_whole]
    unfold Pipeline.ΦT Pipeline.prefHeld
    exact bigSep_univ_eq_bigSepL [(0 : Fin 1)] (by decide) (by decide) _
  rw [hT]
  simp only [owns_whole]
  iintro ⟨⟨⟨%f, HS⟩, Hg⟩, HT⟩
  iexists f
  isplitr; · ipureintro; exact fun h => absurd rfl h
  isplitl [HS]; · iexact HS
  isplitl [Hg]; · iexact Hg
  iexact HT

theorem leave (c : Dev nD) : ((dats m 0 c).Φ (Fin.last grid0.N) : sProp (𝕄 F)) ⊢ Pipeline.ΦA spec0 c := by
  rw [show (dats m 0 c).Φ (Fin.last grid0.N) = inv m c grid0.N from rfl]
  unfold inv Pipeline.ΦA; rw [scopedRest0_eq]
  simp only [owns_whole]
  iintro ⟨%d, -, HS, Hg, -⟩
  isplitl [HS]; · iexists d; iexact HS
  iexact Hg

set_option backward.isDefEq.respectTransparency.types false in
/-- The run: every array ends at what the points leave of it, every other buffer as found, every counter at zero. -/
theorem run_all : θ_run defs (onTc (τ := τ) (main (F := F))) (s₀ m ρ)
    (fun r => Pipeline.FramePost (Pipeline.pin (pcfgs (F := F)) (table m)) (dats m) 0 (V m) r ∧ r.2.sem = fun _ => 0) :=
  Pipeline.θ_run_frameP_track (Q' := _) pcfgs (table m) (dats m) (0 : Fin 1) launch0 defs₀ Variants.none m ρ main
    (hbody := fun c => (obligation m c).loose) (hshare := fun c => (dats m 0 c).share_full fun _ => rfl)
    (howed := fun _ _ => rfl) (V := V m) (hmain := main_host m) (hA := A_eq m)
    (hpf := fun c k => by obtain rfl : c = 0 := Subsingleton.elim _ _; rfl) (hin := enter m) (hout := leave m)

/-! ## The arguments are kept -/

/-- An argument staged by an input window ends as launched. -/
theorem staged_kept {r : PUnit × MemSt nD τ sig (Elt F)}
    (h : Pipeline.FramePost (Pipeline.pin (pcfgs (F := F)) (table m)) (dats m) 0 (V m) r) (c : Dev nD) (w : Fin 11) (hw : ((cfgT m).win w).isOut = false)
    (hb : Pipeline.arrRef spec0 w ∉ [main_v0, main_v1, main_v2, main_v3, main_v4, main_v5, main_v6, main_v7, main_v8, main_v9, main_v10]) :
    r.2.mem ((c.tc : Thread nD τ).loc (Pipeline.arrRef spec0 w)) = m ((c.tc : Thread nD τ).loc (Pipeline.arrRef spec0 w)) :=
  ((h c).1 w).trans (((dats m 0 c).arrAt_in w hw _).trans ((A_eq m c w).trans (V_kept m c _ hb)))

/-- An argument no window stages ends as launched. -/
theorem other_kept {r : PUnit × MemSt nD τ sig (Elt F)}
    (h : Pipeline.FramePost (Pipeline.pin (pcfgs (F := F)) (table m)) (dats m) 0 (V m) r) (c : Dev nD) (b : Ref sig .tc)
    (hr : b ∈ Pipeline.restRefs sig spec0)
    (hb : b ∉ [main_v0, main_v1, main_v2, main_v3, main_v4, main_v5, main_v6, main_v7, main_v8, main_v9, main_v10]) :
    r.2.mem ((c.tc : Thread nD τ).loc b) = m ((c.tc : Thread nD τ).loc b) :=
  ((h c).2 b hr).trans (V_kept m c b hb)

/-- The run with every argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => ⟨staged_kept m h.1 c 0 rfl (by decide), staged_kept m h.1 c 1 rfl (by decide), staged_kept m h.1 c 2 rfl (by decide), staged_kept m h.1 c 3 rfl (by decide), staged_kept m h.1 c 4 rfl (by decide), other_kept m h.1 c main_arg5 (Pipeline.mem_restRefs_of main_arg5 (by decide) (by decide)) (by decide), staged_kept m h.1 c 5 rfl (by decide), other_kept m h.1 c main_arg7 (Pipeline.mem_restRefs_of main_arg7 (by decide) (by decide)) (by decide), other_kept m h.1 c main_arg8 (Pipeline.mem_restRefs_of main_arg8 (by decide) (by decide)) (by decide), other_kept m h.1 c main_arg9 (Pipeline.mem_restRefs_of main_arg9 (by decide) (by decide)) (by decide), other_kept m h.1 c main_arg10 (Pipeline.mem_restRefs_of main_arg10 (by decide) (by decide)) (by decide)⟩, h.2⟩)
    (run_all m ρ)

end Cert.Experts

end
-- ==== Proof.ExpertsBits.lean ====
module

public import proofs.«01_k».proof.Proof.ExpertsLaunch
public import proofs.«01_k».proof.Proof.Gen.Kernel
public import proofs.«01_k».proof.Defs
public import Idealize.ShloMosaic.Adequacy
public import Idealize.ShloMosaic.Init

@[expose] public section

/-! # The experts' call over words

The program read over words and the one read over the extended reals have the same text; here the two are identified
piece by piece, so that one run serves both. -/

set_option maxHeartbeats 2000000

noncomputable section

namespace Cert.Experts

open Idealize.ShloMosaic Idealize.SL.Sem

/-- The two bodies are the same function. -/
theorem body_eq : @Cert.Kernel.cc0_moe_experts Bits _ _ = @Cert.KernelIdeal.cc0_moe_experts Bits _ _ := rfl

/-- So are the tables of bodies. -/
theorem bodies_eq : Cert.Kernel.defs₀ (F := Bits) = Cert.KernelIdeal.defs₀ (F := Bits) := by
  unfold Cert.Kernel.defs₀ Cert.KernelIdeal.defs₀
  rw [body_eq]
  refine congrArg Defs.onTc ?_
  funext l x
  match l, x with
  | ⟨0, _⟩, (t, s) => rfl
  | ⟨_ + 1, h⟩, _ => exact absurd h (Nat.not_lt.2 (Nat.le_add_left _ _))

/-- And the tables of calls. -/
theorem defs_eq : Cert.Kernel.defs (F := Bits) = Cert.KernelIdeal.defs (F := Bits) := by
  unfold Cert.Kernel.defs Cert.KernelIdeal.defs
  rw [bodies_eq]
  rfl

/-- And the programs. -/
theorem main_eq : Cert.Kernel.main (F := Bits) = Cert.KernelIdeal.main (F := Bits) := rfl

/-- The call over words ends, from any memory, with its arguments unchanged and every counter at zero. -/
theorem frame_words : Cert.quiescent_Kernel := fun m ρ _ => by
  rw [defs_eq, main_eq]
  exact frame (F := Bits) m ρ

end Cert.Experts

end
-- ==== Proof.ExpertsParts.lean ====
module

public import proofs.«01_k».proof.Proof.ExpertsLaunch
public import Idealize.ShloMosaic.Lib.Pipeline.ValueKit
public import Idealize.ShloMosaic.Lib.Pointwise
public import Idealize.ShloMosaic.Lib.Claim

@[expose] public section

/-! # What a grid point sees of each array

Point `t` works on the 1024 tokens from `t / 8 * 1024` on, as two blocks of 512, and on expert `t % 8`. Here every
operand it reads is given at an element, by the program's arguments. -/

noncomputable section

namespace Cert.Experts

open Cert.KernelIdeal Cert.KernelIdeal.Gen
open Idealize.ShloMosaic Idealize.ShloMosaic.TcCoe

variable (m : (ℓ : Loc nD τ sig) → Buf (Elt Ideal) ℓ) (c : Dev nD)

/-! ## The arrays the host prepares -/

/-- The gate matrices, an expert each. -/
theorem host_gate (e : Fin 8) (i : Fin 1024) (k : Fin 1408) :
    V m c main_v1 (ix3 e i k) = m ((c : Thread nD τ).loc main_arg8) (ix4 0 e i k) := by
  entry_read
  pointwise

/-- The up matrices. -/
theorem host_up (e : Fin 8) (i : Fin 1024) (k : Fin 1408) :
    V m c main_v3 (ix3 e i k) = m ((c : Thread nD τ).loc main_arg9) (ix4 0 e i k) := by
  entry_read
  pointwise

/-- The down matrices. -/
theorem host_down (e : Fin 8) (k : Fin 1408) (j : Fin 1024) :
    V m c main_v5 (ix3 e k j) = m ((c : Thread nD τ).loc main_arg10) (ix4 0 e k j) := by
  entry_read
  pointwise

/-- The table of counts, a word for each block and expert. -/
theorem host_count (b : Fin 16) (e : Fin 8) :
    V m c main_v9 (ix1 ⟨b.val * 8 + e.val, by omega⟩)
      = Ideal.fptosi 32 (m ((c : Thread nD τ).loc main_arg5) (ix3 b 0 ⟨e.val, by omega⟩)) := by
  entry_read
  pointwise
  rfl

/-- The last norm's gain as a row. -/
theorem host_gain (j : Fin 1024) : V m c main_v10 (ix2 0 j) = m ((c : Thread nD τ).loc main_arg7) (ix1 j) := by
  entry_read
  pointwise

/-! ## Where a point's blocks lie -/

theorem place_0 : ∀ t : Fin grid0.N, cc0_transform_0 (grid0.coords t) = ![t.val / 8, 0] := by decide +kernel
theorem place_1 : ∀ t : Fin grid0.N, cc0_transform_1 (grid0.coords t) = ![t.val / 8, 0] := by decide +kernel
theorem place_2 : ∀ t : Fin grid0.N, cc0_transform_2 (grid0.coords t) = ![t.val / 8, 0] := by decide +kernel
theorem place_3 : ∀ t : Fin grid0.N, cc0_transform_3 (grid0.coords t) = ![t.val / 8, 0] := by decide +kernel
theorem place_10 : ∀ t : Fin grid0.N, cc0_transform_10 (grid0.coords t) = ![t.val / 8, 0] := by decide +kernel
theorem place_4 : ∀ t : Fin grid0.N, cc0_transform_4 (grid0.coords t) = ![t.val / 8, 0, 0] := by decide +kernel
theorem place_5 : ∀ t : Fin grid0.N, cc0_transform_5 (grid0.coords t) = ![0, 0, 0] := by decide +kernel
theorem place_6 : ∀ t : Fin grid0.N, cc0_transform_6 (grid0.coords t) = ![0, 0] := by decide +kernel
theorem place_7 : ∀ t : Fin grid0.N, cc0_transform_7 (grid0.coords t) = ![t.val % 8, 0, 0] := by decide +kernel
theorem place_8 : ∀ t : Fin grid0.N, cc0_transform_8 (grid0.coords t) = ![t.val % 8, 0, 0] := by decide +kernel
theorem place_9 : ∀ t : Fin grid0.N, cc0_transform_9 (grid0.coords t) = ![t.val % 8, 0, 0] := by decide +kernel

/-! ## The blocks at an element -/

/-- The last token a point sees is a token. -/
theorem token_lt (t : Fin grid0.N) (r : Fin 1024) : t.val / 8 * 1024 + r.val < 8192 := by
  have ht : t.val < 64 := t.isLt
  omega

/-- The residual stream. -/
theorem stream_at (t : Fin grid0.N) (r : Fin 1024) (i : Fin 1024) :
    part m c 0 t (ix2 r i) = m ((c : Thread nD τ).loc main_arg0) (ix2 ⟨t.val / 8 * 1024 + r.val, token_lt t r⟩ i) := by
  refine (congrArg (V m c main_arg0) (show ((((cfgT m).win 0).blk t).view.emb (ix2 r i)) = ix2 ⟨t.val / 8 * 1024 + r.val, token_lt t r⟩ i from ?_)).trans ?_
  · funext a
    refine Fin.ext ?_
    match a with
    | ⟨0, _⟩ =>
      blk_simp
      show cc0_transform_0 (grid0.coords t) 0 * 1024 + r.val = _
      rw [place_0]
      rfl
    | ⟨1, _⟩ =>
      blk_simp
      show cc0_transform_0 (grid0.coords t) 1 * 1024 + i.val = _
      rw [place_0]
      exact (congrArg (· + _) (Nat.zero_mul 1024)).trans (Nat.zero_add _)
  · rw [V_kept m c main_arg0 (by decide)]

/-- The tokens' normed rows. -/
theorem rows_at (t : Fin grid0.N) (r : Fin 1024) (i : Fin 1024) :
    part m c 1 t (ix2 r i) = m ((c : Thread nD τ).loc main_arg1) (ix2 ⟨t.val / 8 * 1024 + r.val, token_lt t r⟩ i) := by
  refine (congrArg (V m c main_arg1) (show ((((cfgT m).win 1).blk t).view.emb (ix2 r i)) = ix2 ⟨t.val / 8 * 1024 + r.val, token_lt t r⟩ i from ?_)).trans ?_
  · funext a
    refine Fin.ext ?_
    match a with
    | ⟨0, _⟩ =>
      blk_simp
      show cc0_transform_1 (grid0.coords t) 0 * 1024 + r.val = _
      rw [place_1]
      rfl
    | ⟨1, _⟩ =>
      blk_simp
      show cc0_transform_1 (grid0.coords t) 1 * 1024 + i.val = _
      rw [place_1]
      exact (congrArg (· + _) (Nat.zero_mul 1024)).trans (Nat.zero_add _)
  · rw [V_kept m c main_arg1 (by decide)]

/-- The tokens' weights, a lane for each expert. -/
theorem weight_at (t : Fin grid0.N) (r : Fin 1024) (i : Fin 128) :
    part m c 2 t (ix2 r i) = m ((c : Thread nD τ).loc main_arg2) (ix2 ⟨t.val / 8 * 1024 + r.val, token_lt t r⟩ i) := by
  refine (congrArg (V m c main_arg2) (show ((((cfgT m).win 2).blk t).view.emb (ix2 r i)) = ix2 ⟨t.val / 8 * 1024 + r.val, token_lt t r⟩ i from ?_)).trans ?_
  · funext a
    refine Fin.ext ?_
    match a with
    | ⟨0, _⟩ =>
      blk_simp
      show cc0_transform_2 (grid0.coords t) 0 * 1024 + r.val = _
      rw [place_2]
      rfl
    | ⟨1, _⟩ =>
      blk_simp
      show cc0_transform_2 (grid0.coords t) 1 * 128 + i.val = _
      rw [place_2]
      exact (congrArg (· + _) (Nat.zero_mul 128)).trans (Nat.zero_add _)
  · rw [V_kept m c main_arg2 (by decide)]

/-- The tokens' ranks, a lane for each expert. -/
theorem rank_at (t : Fin grid0.N) (r : Fin 1024) (i : Fin 128) :
    part m c 3 t (ix2 r i) = m ((c : Thread nD τ).loc main_arg3) (ix2 ⟨t.val / 8 * 1024 + r.val, token_lt t r⟩ i) := by
  refine (congrArg (V m c main_arg3) (show ((((cfgT m).win 3).blk t).view.emb (ix2 r i)) = ix2 ⟨t.val / 8 * 1024 + r.val, token_lt t r⟩ i from ?_)).trans ?_
  · funext a
    refine Fin.ext ?_
    match a with
    | ⟨0, _⟩ =>
      blk_simp
      show cc0_transform_3 (grid0.coords t) 0 * 1024 + r.val = _
      rw [place_3]
      rfl
    | ⟨1, _⟩ =>
      blk_simp
      show cc0_transform_3 (grid0.coords t) 1 * 128 + i.val = _
      rw [place_3]
      exact (congrArg (· + _) (Nat.zero_mul 128)).trans (Nat.zero_add _)
  · rw [V_kept m c main_arg3 (by decide)]

/-- A point's two blocks are blocks. -/
theorem half_lt (t : Fin grid0.N) (a : Fin 2) : t.val / 8 * 2 + a.val < 16 := by
  have ht : t.val < 64 := t.isLt
  omega

/-- The ranks laid out by expert, for the two blocks. -/
theorem slots_at (t : Fin grid0.N) (half : Fin 2) (e : Fin 8) (r : Fin 512) :
    part m c 4 t (ix3 half e r) = m ((c : Thread nD τ).loc main_arg4) (ix3 (⟨t.val / 8 * 2 + half.val, half_lt t half⟩ : Fin 16) e r) := by
  refine (congrArg (V m c main_arg4) (show ((((cfgT m).win 4).blk t).view.emb (ix3 half e r)) = ix3 (⟨t.val / 8 * 2 + half.val, half_lt t half⟩ : Fin 16) e r from ?_)).trans ?_
  · funext a
    refine Fin.ext ?_
    match a with
    | ⟨0, _⟩ =>
      blk_simp
      show cc0_transform_4 (grid0.coords t) 0 * 2 + half.val = _
      rw [place_4]
      rfl
    | ⟨1, _⟩ =>
      blk_simp
      show cc0_transform_4 (grid0.coords t) 1 * 8 + e.val = _
      rw [place_4]
      exact (congrArg (· + _) (Nat.zero_mul 8)).trans (Nat.zero_add _)
    | ⟨2, _⟩ =>
      blk_simp
      show cc0_transform_4 (grid0.coords t) 2 * 512 + r.val = _
      rw [place_4]
      exact (congrArg (· + _) (Nat.zero_mul 512)).trans (Nat.zero_add _)
  · rw [V_kept m c main_arg4 (by decide)]

/-- The gate on what the experts add. -/
theorem scale_at (t : Fin grid0.N) (j : Fin 1024) :
    part m c 5 t (ix3 0 0 j) = m ((c : Thread nD τ).loc main_arg6) (ix3 0 0 j) := by
  refine (congrArg (V m c main_arg6) (show ((((cfgT m).win 5).blk t).view.emb (ix3 0 0 j)) = ix3 0 0 j from ?_)).trans ?_
  · funext a
    refine Fin.ext ?_
    match a with
    | ⟨0, _⟩ =>
      blk_simp
      show cc0_transform_5 (grid0.coords t) 0 + 0 = _
      rw [place_5]
      rfl
    | ⟨1, _⟩ =>
      blk_simp
      show cc0_transform_5 (grid0.coords t) 1 + 0 = _
      rw [place_5]
      rfl
    | ⟨2, _⟩ =>
      blk_simp
      show cc0_transform_5 (grid0.coords t) 2 * 1024 + j.val = _
      rw [place_5]
      exact (congrArg (· + _) (Nat.zero_mul 1024)).trans (Nat.zero_add _)
  · rw [V_kept m c main_arg6 (by decide)]

/-- The last norm's gain. -/
theorem gain_at (t : Fin grid0.N) (j : Fin 1024) :
    part m c 6 t (ix2 0 j) = m ((c : Thread nD τ).loc main_arg7) (ix1 j) := by
  refine (congrArg (V m c main_v10) (show ((((cfgT m).win 6).blk t).view.emb (ix2 0 j)) = ix2 0 j from ?_)).trans ?_
  · funext a
    refine Fin.ext ?_
    match a with
    | ⟨0, _⟩ =>
      blk_simp
      show cc0_transform_6 (grid0.coords t) 0 + 0 = _
      rw [place_6]
      rfl
    | ⟨1, _⟩ =>
      blk_simp
      show cc0_transform_6 (grid0.coords t) 1 * 1024 + j.val = _
      rw [place_6]
      exact (congrArg (· + _) (Nat.zero_mul 1024)).trans (Nat.zero_add _)
  · exact host_gain m c j

/-- The point's expert's gate matrix. -/
theorem wgate_at (t : Fin grid0.N) (i : Fin 1024) (k : Fin 1408) :
    part m c 7 t (ix3 0 i k) = m ((c : Thread nD τ).loc main_arg8) (ix4 0 (⟨t.val % 8, Nat.mod_lt _ (by decide)⟩ : Fin 8) i k) := by
  refine (congrArg (V m c main_v1) (show ((((cfgT m).win 7).blk t).view.emb (ix3 0 i k)) = ix3 (⟨t.val % 8, Nat.mod_lt _ (by decide)⟩ : Fin 8) i k from ?_)).trans ?_
  · funext a
    refine Fin.ext ?_
    match a with
    | ⟨0, _⟩ =>
      blk_simp
      show cc0_transform_7 (grid0.coords t) 0 + 0 = _
      rw [place_7]
      rfl
    | ⟨1, _⟩ =>
      blk_simp
      show cc0_transform_7 (grid0.coords t) 1 * 1024 + i.val = _
      rw [place_7]
      exact (congrArg (· + _) (Nat.zero_mul 1024)).trans (Nat.zero_add _)
    | ⟨2, _⟩ =>
      blk_simp
      show cc0_transform_7 (grid0.coords t) 2 * 1408 + k.val = _
      rw [place_7]
      exact (congrArg (· + _) (Nat.zero_mul 1408)).trans (Nat.zero_add _)
  · exact host_gate m c _ i k

/-- Its up matrix. -/
theorem wup_at (t : Fin grid0.N) (i : Fin 1024) (k : Fin 1408) :
    part m c 8 t (ix3 0 i k) = m ((c : Thread nD τ).loc main_arg9) (ix4 0 (⟨t.val % 8, Nat.mod_lt _ (by decide)⟩ : Fin 8) i k) := by
  refine (congrArg (V m c main_v3) (show ((((cfgT m).win 8).blk t).view.emb (ix3 0 i k)) = ix3 (⟨t.val % 8, Nat.mod_lt _ (by decide)⟩ : Fin 8) i k from ?_)).trans ?_
  · funext a
    refine Fin.ext ?_
    match a with
    | ⟨0, _⟩ =>
      blk_simp
      show cc0_transform_8 (grid0.coords t) 0 + 0 = _
      rw [place_8]
      rfl
    | ⟨1, _⟩ =>
      blk_simp
      show cc0_transform_8 (grid0.coords t) 1 * 1024 + i.val = _
      rw [place_8]
      exact (congrArg (· + _) (Nat.zero_mul 1024)).trans (Nat.zero_add _)
    | ⟨2, _⟩ =>
      blk_simp
      show cc0_transform_8 (grid0.coords t) 2 * 1408 + k.val = _
      rw [place_8]
      exact (congrArg (· + _) (Nat.zero_mul 1408)).trans (Nat.zero_add _)
  · exact host_up m c _ i k

/-- Its down matrix. -/
theorem wdown_at (t : Fin grid0.N) (i : Fin 1408) (k : Fin 1024) :
    part m c 9 t (ix3 0 i k) = m ((c : Thread nD τ).loc main_arg10) (ix4 0 (⟨t.val % 8, Nat.mod_lt _ (by decide)⟩ : Fin 8) i k) := by
  refine (congrArg (V m c main_v5) (show ((((cfgT m).win 9).blk t).view.emb (ix3 0 i k)) = ix3 (⟨t.val % 8, Nat.mod_lt _ (by decide)⟩ : Fin 8) i k from ?_)).trans ?_
  · funext a
    refine Fin.ext ?_
    match a with
    | ⟨0, _⟩ =>
      blk_simp
      show cc0_transform_9 (grid0.coords t) 0 + 0 = _
      rw [place_9]
      rfl
    | ⟨1, _⟩ =>
      blk_simp
      show cc0_transform_9 (grid0.coords t) 1 * 1408 + i.val = _
      rw [place_9]
      exact (congrArg (· + _) (Nat.zero_mul 1408)).trans (Nat.zero_add _)
    | ⟨2, _⟩ =>
      blk_simp
      show cc0_transform_9 (grid0.coords t) 2 * 1024 + k.val = _
      rw [place_9]
      exact (congrArg (· + _) (Nat.zero_mul 1024)).trans (Nat.zero_add _)
  · exact host_down m c _ i k

end Cert.Experts
-- ==== Proof.Activation.lean ====
/-
  The gate activation.  The kernels write `silu g` as `g · (½ · tanh (½ · g) + ½)`, the references as
  `g · (1 / (1 + exp (−g)))`; on the extended reals the two factors are the same function.
-/
module

public import Idealize.ShloMosaic.PureOps.Ideal
public import Idealize.ShloMosaic.Lib.IdealHost

@[expose] public section

noncomputable section

namespace Cert.Activation

open Idealize.ShloMosaic

/-- The f32 pattern `0x3F000000` is one half. -/
theorem half_bits : Ideal.ofBits .f32 0x3F000000#32 = ((1 / 2 : ℝ) : EReal) := by
  simp [Ideal.ofBits, Ideal.ieee, -EReal.coe_mul]; norm_num

/-- Half of the top. -/
theorem half_top : ((1 / 2 : ℝ) : EReal) * ⊤ = ⊤ := EReal.coe_mul_top_of_pos (by norm_num)

/-- Half of the bottom. -/
theorem half_bot : ((1 / 2 : ℝ) : EReal) * ⊥ = ⊥ := EReal.coe_mul_bot_of_pos (by norm_num)

/-- The logistic function of a real, by the hyperbolic tangent of half of it. -/
theorem tanh_half (r : ℝ) : 1 / 2 * Real.tanh (1 / 2 * r) + 1 / 2 = (1 + Real.exp (-r))⁻¹ := by
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add]; simp
  have hp := Real.exp_pos (1 / 2 * r)
  have hn := Real.exp_pos (-(1 / 2 * r))
  rw [Real.tanh_eq_sinh_div_cosh, Real.sinh_eq, Real.cosh_eq, h1]
  generalize Real.exp (1 / 2 * r) = a at *
  generalize Real.exp (-(1 / 2 * r)) = b at *
  field_simp
  linear_combination (2 * b) * h2

/-- The kernels' factor is the references'. -/
theorem factor (x : EReal) :
    Ideal.ofBits .f32 0x3F000000#32 * Ideal.tanh (Ideal.ofBits .f32 0x3F000000#32 * x) + Ideal.ofBits .f32 0x3F000000#32
      = Ideal.div 1 (1 + Ideal.exp (-x)) := by
  rw [half_bits]
  show _ = Ideal.logistic x
  induction x with
  | bot =>
    rw [half_bot, Ideal.tanh_bot, Ideal.logistic_bot, ← EReal.coe_one, ← EReal.coe_neg, ← EReal.coe_mul, ← EReal.coe_add]
    norm_num
  | top =>
    rw [half_top, Ideal.tanh_top, Ideal.logistic_top, ← EReal.coe_one, ← EReal.coe_mul, ← EReal.coe_add]
    norm_num
  | coe r =>
    rw [← EReal.coe_mul, Ideal.tanh_coe, Ideal.logistic_coe, ← EReal.coe_mul, ← EReal.coe_add, tanh_half]

end Cert.Activation

end
-- ==== Proof.ExpertsGroup.lean ====
module

public import proofs.«01_k».proof.Proof.ExpertsStep
public import proofs.«01_k».proof.Proof.Activation
public import Idealize.ShloMosaic.Lib.Pointwise

@[expose] public section

/-! # What one block of 512 tokens adds

At an element, over the extended reals: a group of 128 slots gathers the rows of its tokens by a product with ones and
zeros, runs the expert on them, and gives each token its own answer back by a second such product. A token's slot is
its rank among the tokens its expert takes, so of the four groups exactly one answers a taken token, and none
answers another; a token not taken has weight zero. So the block adds to every token its weight times the expert's
answer on its own row. -/

noncomputable section

namespace Cert.Experts

open Cert.KernelIdeal Cert.KernelIdeal.Gen
open Idealize.ShloMosaic

/-- An expert's answer on one row: `(silu (row · wg) * (row · wu)) · wd` at column `j`. -/
def answer (row : Fin 1024 → EReal) (wg wu : Fin 1024 → Fin 1408 → EReal) (wd : Fin 1408 → Fin 1024 → EReal) (j : Fin 1024) : EReal :=
  ∑ k, ((∑ i, row i * wg i k) * Ideal.div 1 (1 + Ideal.exp (-(∑ i, row i * wg i k))) * ∑ i, row i * wu i k) * wd k j

/-! ## Small words -/

/-- A lane's number, read as an extended real. -/
theorem lane_real {n : ℕ} (hn : n ≤ 512) (x : Fin n) :
    (FloatOps.sitofp (F := Ideal) FTy.f32 (BitVec.ofNat 32 x.val) : EReal) = ((x.val : ℕ) : EReal) := by
  show ((((BitVec.ofNat 32 x.val).toInt : ℤ) : ℝ) : EReal) = _
  have hx := x.isLt
  have : (BitVec.ofNat 32 x.val).toInt = (x.val : ℤ) := by
    rw [BitVec.toInt_eq_toNat_of_lt (by rw [BitVec.toNat_ofNat]; omega), BitVec.toNat_ofNat, Nat.mod_eq_of_lt (by omega)]
  rw [this]; simp

theorem bits_128 : Ideal.ofBits .f32 0x43000000#32 = ((128 : ℕ) : EReal) := by
  rw [← EReal.coe_natCast]; simp [Ideal.ofBits, Ideal.ieee, -EReal.coe_mul]; norm_num
theorem bits_256 : Ideal.ofBits .f32 0x43800000#32 = ((256 : ℕ) : EReal) := by
  rw [← EReal.coe_natCast]; simp [Ideal.ofBits, Ideal.ieee, -EReal.coe_mul]; norm_num
theorem bits_384 : Ideal.ofBits .f32 0x43C00000#32 = ((384 : ℕ) : EReal) := by
  rw [← EReal.coe_natCast]; simp [Ideal.ofBits, Ideal.ieee, -EReal.coe_mul]; norm_num
theorem bits_0 : Ideal.ofBits .f32 0x00000000#32 = ((0 : ℕ) : EReal) := by
  rw [Ideal.ofBits_zero_f32]; simp

/-- The bit that a count exceeds a bound, of a count of at most 512. -/
theorem over_0 : ∀ n : Fin 513, over (BitVec.ofNat 32 n.val) 0#32 = 1#1 ↔ 0 < n.val := by decide +kernel
theorem over_128 : ∀ n : Fin 513, over (BitVec.ofNat 32 n.val) 128#32 = 1#1 ↔ 128 < n.val := by decide +kernel
theorem over_256 : ∀ n : Fin 513, over (BitVec.ofNat 32 n.val) 256#32 = 1#1 ↔ 256 < n.val := by decide +kernel
theorem over_384 : ∀ n : Fin 513, over (BitVec.ofNat 32 n.val) 384#32 = 1#1 ↔ 384 < n.val := by decide +kernel

/-- Comparing a lane with an expert's number. -/
theorem lane_eq : ∀ (x : Fin 128) (e : Fin 8),
    IntOp.cmpi CmpIPredicate.eq (BitVec.ofNat 32 x.val) (BitVec.ofNat 32 e.val) = if x.val = e.val then 1#1 else 0#1 := by decide +kernel

/-- Two naturals are equal as extended reals only when equal. -/
theorem nat_inj {a b : ℕ} (h : ((a : ℕ) : EReal) = ((b : ℕ) : EReal)) : a = b := by exact_mod_cast h

/-- No natural is `-1`. -/
theorem nat_ne_neg (k : ℕ) (h : ((k : ℕ) : EReal) = -1) : False := by
  have h' : (((k : ℕ) : ℝ) : EReal) = (((-1 : ℝ)) : EReal) := by simpa using h
  have h2 := EReal.coe_injective h'
  have h3 : (0 : ℝ) ≤ (k : ℝ) := Nat.cast_nonneg k
  linarith

/-! ## The pieces at an element -/

/-- Picking lane `e` reads it. -/
theorem pick_at (e : Fin 8) (t : Vec Ideal S512x128 .f32) (r : Fin 512) :
    pick (BitVec.ofNat 32 e.val) t (ix2 r 0) = t (ix2 r ⟨e.val, by omega⟩) := by
  pointwise [pick, lane]
  rw [Finset.sum_eq_single (⟨e.val, by omega⟩ : Fin 128)]
  · rw [lane_eq, if_pos rfl]; rfl
  · intro b _ hb
    rw [lane_eq, if_neg (fun h => hb (Fin.ext h))]; rfl
  · exact fun h => absurd (Finset.mem_univ _) h

/-- A group's answers, a row each. -/
theorem answers_at {w : BitVec 32} {n : ℕ} (hw : Ideal.ofBits .f32 w = ((n : ℕ) : EReal)) (slots : Vec Ideal S1x1x512 .f32)
    (h : Vec Ideal S512x1024 .bf16) (wg wu : Vec Ideal S1x1024x1408 .bf16) (wd : Vec Ideal S1x1408x1024 .bf16) (s : Fin 128) (j : Fin 1024) :
    answers w slots h wg wu wd (ix2 s j)
      = answer (fun i => ∑ r, (if slots (ix3 0 0 r) = ((s.val + n : ℕ) : EReal) then 1 else 0) * h (ix2 r i))
          (fun i k => wg (ix3 0 i k)) (fun i k => wu (ix3 0 i k)) (fun k j => wd (ix3 0 k j)) j := by
  pointwise [answers]
  unfold answer
  refine Finset.sum_congr rfl fun k _ => ?_
  congr 1
  pointwise [gated, gatherRows, k0_pay23]
  simp only [Cert.Activation.factor, hw, lane_real (by norm_num : 128 ≤ 512), Nat.cast_add]

/-- A group's answers given back: each token whose slot is in the group gets that slot's answer. -/
theorem spread_at {w : BitVec 32} {n : ℕ} (hw : Ideal.ofBits .f32 w = ((n : ℕ) : EReal)) (e : Fin 8) (y : FVec Ideal S128x1024 .bf16)
    (rank weight : Vec Ideal S512x128 .f32) (a : Vec Ideal S512x1024 .f32) (r : Fin 512) (j : Fin 1024) :
    spread w (BitVec.ofNat 32 e.val) y rank weight a (ix2 r j)
      = a (ix2 r j) + weight (ix2 r ⟨e.val, by omega⟩)
        * ∑ s : Fin 128, (if rank (ix2 r ⟨e.val, by omega⟩) = ((s.val + n : ℕ) : EReal) then 1 else 0) * y (ix2 s j) := by
  pointwise [spread, k0_pay24]
  simp only [pick_at, hw, lane_real (by norm_num : 128 ≤ 512), Nat.cast_add]

/-! ## One group -/

/-- What the tables say of one block and one expert: a token's slot is a natural below the count, no two tokens having
    the same one, or it is `-1`, and then the token's weight is zero. -/
structure Routed (N W : Fin 512 → EReal) (n : ℕ) : Prop where
  count_le : n ≤ 512
  taken_or : ∀ r, (∃ k : ℕ, k < n ∧ N r = ((k : ℕ) : EReal)) ∨ (N r = -1 ∧ W r = 0)
  slot_inj : ∀ r r' (k : ℕ), N r = ((k : ℕ) : EReal) → N r' = ((k : ℕ) : EReal) → r = r'

/-- The token at slot `k` is the only one gathered into it. -/
theorem gathered {N W : Fin 512 → EReal} {n : ℕ} (R : Routed N W n) (h : Fin 512 → EReal) {r : Fin 512} {k : ℕ}
    (hk : N r = ((k : ℕ) : EReal)) : ∑ r', (if N r' = ((k : ℕ) : EReal) then 1 else 0) * h r' = h r := by
  rw [Finset.sum_eq_single r]
  · rw [if_pos hk, one_mul]
  · intro b _ hb
    rw [if_neg (fun hb' => hb (R.slot_inj b r k hb' hk)), zero_mul]
  · exact fun h => absurd (Finset.mem_univ _) h

section
variable (e : Fin 8) (slots : Vec Ideal S1x1x512 .f32) (h : Vec Ideal S512x1024 .bf16) (wg wu : Vec Ideal S1x1024x1408 .bf16)
  (wd : Vec Ideal S1x1408x1024 .bf16) (rank weight : Vec Ideal S512x128 .f32) (a : Vec Ideal S512x1024 .f32)

/-- The weight of token `r` for the expert times the expert's answer on the token's own row. -/
def share (r : Fin 512) (j : Fin 1024) : EReal :=
  weight (ix2 r ⟨e.val, by omega⟩) * answer (fun i => h (ix2 r i)) (fun i k => wg (ix3 0 i k)) (fun i k => wu (ix3 0 i k)) (fun k j => wd (ix3 0 k j)) j

variable {e slots h wg wu wd rank weight a}
variable {n : ℕ} (R : Routed (fun r => rank (ix2 r ⟨e.val, by omega⟩)) (fun r => weight (ix2 r ⟨e.val, by omega⟩)) n)
  (hs : ∀ r, slots (ix3 0 0 r) = rank (ix2 r ⟨e.val, by omega⟩))

include R hs in
/-- A group adds its share to the tokens whose slots it holds, and nothing to the others. -/
theorem group_at {w : BitVec 32} {b : ℕ} (hw : Ideal.ofBits .f32 w = ((b : ℕ) : EReal)) (r : Fin 512) (j : Fin 1024) :
    group w (BitVec.ofNat 32 e.val) slots h wg wu wd rank weight a (ix2 r j)
      = a (ix2 r j) + (open Classical in if ∃ k : ℕ, rank (ix2 r ⟨e.val, by omega⟩) = ((k : ℕ) : EReal) ∧ b ≤ k ∧ k < b + 128
          then share e h wg wu wd weight r j else 0) := by
  unfold group
  rw [spread_at hw]
  congr 1
  split
  · rename_i hk
    obtain ⟨k, hk, hb, hb'⟩ := hk
    unfold share
    congr 1
    rw [Finset.sum_eq_single (⟨k - b, by omega⟩ : Fin 128)]
    · rw [if_pos (by rw [hk]; congr 1; show k = k - b + b; omega), one_mul, answers_at hw]
      congr 1
      funext i
      simp only [hs]
      have e1 : k - b + b = k := by omega
      simp only [e1]
      exact gathered R (fun r' => h (ix2 r' i)) hk
    · intro s _ hsb
      rw [if_neg, zero_mul]
      intro h'
      have := nat_inj (hk.symm.trans h')
      exact hsb (Fin.ext (by show s.val = k - b; omega))
    · exact fun h => absurd (Finset.mem_univ _) h
  · rename_i hk
    rw [Finset.sum_eq_zero, mul_zero]
    intro s _
    rw [if_neg, zero_mul]
    intro h'
    exact hk ⟨_, h', by omega, by have := s.isLt; omega⟩

include R hs in
/-- So does a group that is run only when the count exceeds the groups before it. -/
theorem when_at {w k : BitVec 32} {b : ℕ} (hw : Ideal.ofBits .f32 w = ((b : ℕ) : EReal))
    (ho : over (BitVec.ofNat 32 n) k = 1#1 ↔ b < n) (r : Fin 512) (j : Fin 1024) :
    when (over (BitVec.ofNat 32 n) k) (group w (BitVec.ofNat 32 e.val) slots h wg wu wd rank weight) a (ix2 r j)
      = a (ix2 r j) + (open Classical in if ∃ k : ℕ, rank (ix2 r ⟨e.val, by omega⟩) = ((k : ℕ) : EReal) ∧ b ≤ k ∧ k < b + 128
          then share e h wg wu wd weight r j else 0) := by
  unfold when
  by_cases hb : over (BitVec.ofNat 32 n) k = 1#1
  · rw [if_pos hb]; exact group_at R hs hw r j
  · rw [if_neg hb, if_neg, add_zero]
    rintro ⟨k', hk', hb', -⟩
    rcases R.taken_or r with ⟨k'', h1, h2⟩ | ⟨h1, -⟩
    · have := nat_inj (hk'.symm.trans h2)
      exact hb (ho.2 (by omega))
    · have h3 := hk'.symm.trans h1
      exact nat_ne_neg k' h3

include R hs in
/-- A block adds its share to every token. -/
theorem block_at (r : Fin 512) (j : Fin 1024) :
    block (BitVec.ofNat 32 n) (BitVec.ofNat 32 e.val) slots h wg wu wd rank weight a (ix2 r j) = a (ix2 r j) + share e h wg wu wd weight r j := by
  have hn := R.count_le
  have o := over_0 ⟨n, by omega⟩
  have o1 := over_128 ⟨n, by omega⟩
  have o2 := over_256 ⟨n, by omega⟩
  have o3 := over_384 ⟨n, by omega⟩
  unfold block
  rw [when_at R hs bits_384 o3, when_at R hs bits_256 o2, when_at R hs bits_128 o1, when_at R hs bits_0 o]
  rcases R.taken_or r with ⟨k, h1, h2⟩ | ⟨h1, h2⟩
  · have key : ∀ b : ℕ, (∃ k : ℕ, rank (ix2 r ⟨e.val, by omega⟩) = ((k : ℕ) : EReal) ∧ b ≤ k ∧ k < b + 128) ↔ (b ≤ k ∧ k < b + 128) := by
      intro b
      constructor
      · rintro ⟨k', h', hb⟩
        obtain rfl := nat_inj (h'.symm.trans h2)
        exact hb
      · exact fun hb => ⟨k, h2, hb⟩
    simp only [key]
    rcases (by omega : k < 128 ∨ (128 ≤ k ∧ k < 256) ∨ (256 ≤ k ∧ k < 384) ∨ 384 ≤ k) with h | h | h | h
    · rw [if_pos (by omega), if_neg (by omega), if_neg (by omega), if_neg (by omega)]; simp only [add_zero]
    · rw [if_neg (by omega), if_pos (by omega), if_neg (by omega), if_neg (by omega)]; simp only [add_zero]
    · rw [if_neg (by omega), if_neg (by omega), if_pos (by omega), if_neg (by omega)]; simp only [add_zero]
    · rw [if_neg (by omega), if_neg (by omega), if_neg (by omega), if_pos (by omega)]; simp only [add_zero]
  · have hz : share e h wg wu wd weight r j = 0 := by
      unfold share; rw [h2, zero_mul]
    rw [hz]; simp only [ite_self, add_zero]
end

end Cert.Experts

end
-- ==== Proof.ExpertsRouting.lean ====
module

public import proofs.«01_k».proof.Defs
public import proofs.«01_k».proof.Proof.Gen.Pre_routed
public import proofs.«01_k».proof.Proof.ExpertsGroup
public import Idealize.ShloMosaic.Lib.Pointwise
public import Idealize.ShloMosaic.Lib.Routing.Ops
public import Mathlib.Data.Nat.Count

@[expose] public section

/-! # What consistent tables say

The kernel is handed the routing three ways: each token's rank among those its expert takes, the same ranks laid out by
expert, and how many tokens of each block each expert takes. The precondition says that the three agree: a rank that is not
negative is the number of such ranks up to it, less one; a negative rank is `-1`, and there the weight is zero; the
count is the number of ranks that are not negative. From it follow, for each block of 512 tokens and each expert, the facts
`Routed` that the block's computation needs. -/

noncomputable section

namespace Cert.Experts

open Idealize.ShloMosaic

/-! ## The running count -/

/-- Adding naturals one by one, read as extended reals. -/
theorem fold_naturals {ι : Type} (l : List ι) (step : EReal → ι → EReal) (f : ι → ℕ) (hf : ∀ v i, step v i = v + ((f i : ℕ) : EReal))
    (z : ℕ) : l.foldl step ((z : ℕ) : EReal) = ((z + (l.map f).sum : ℕ) : EReal) := by
  induction l generalizing z with
  | nil => simp
  | cons i l ih =>
    rw [List.foldl_cons, hf, ← Nat.cast_add, ih]
    simp [Nat.add_assoc]

/-- A window that is one row of 512. -/
abbrev Row : Shape := ⟨3, ![1, 1, 512]⟩

/-- It has 512 elements. -/
theorem row_numel : Row.numel = 512 := by
  show ∏ a : Fin 3, (![1, 1, 512] : Fin 3 → ℕ) a = 512
  rw [Fin.prod_univ_three]; rfl

/-- Its `n`-th element is at place `n` of the row. -/
theorem row_place (n : Fin Row.numel) : Row.rowMajor.symm n = ix3 (0 : Fin 1) (0 : Fin 1) (n.cast row_numel) :=
  (Row.rowMajor.symm_apply_eq).2 (Fin.ext (by
    rw [Shape.rowMajor_val_three]
    show n.val = (0 * 1 + 0) * 512 + n.val
    omega))

/-- A mask of ones and zeros, summed, is a count. -/
theorem sum_mask (P : ℕ → Prop) [DecidablePred P] (n : ℕ) : ((List.range n).map fun k => if P k then 1 else 0).sum = Nat.count P n := by
  induction n with
  | zero => rfl
  | succ n ih => rw [List.range_succ, List.map_append, List.sum_append, ih, Nat.count_succ]; simp

/-- A one or a zero is the same as a natural and as an extended real. -/
theorem mask_cast (p : Prop) [Decidable p] : (if p then (1 : EReal) else 0) = ((if p then 1 else 0 : ℕ) : EReal) := by
  split <;> simp

/-- The running sum along a block's tokens of a mask of ones and zeros counts the ones so far. -/
theorem running {x : FVec Ideal Cert.Pre_routed.S16x8x512 .f32} {b : Fin 16} {e : Fin 8} {P : ℕ → Prop} [DecidablePred P]
    (hx : ∀ r : Fin 512, x (ix3 b e r) = if P r.val then 1 else 0) (r : Fin 512) :
    Cert.Pre_routed.fn_cumsum_0 (F := Ideal) x (ix3 b e r) = ((Nat.count P (r.val + 1) : ℕ) : EReal) := by
  have hr := r.isLt
  have hs : ((List.finRange Row.numel).map fun n => if 511 ≤ r.val + n.val then (if P (r.val + n.val - 511) then 1 else 0) else 0).sum
      = Nat.count P (r.val + 1) := by
    rw [← sum_mask, ← Routing.sum_window (fun k => if P k then 1 else 0) 511 r.val (by omega), show 511 + 1 = Row.numel from row_numel.symm,
      ← List.map_coe_finRange_eq_range, List.map_map]
    rfl
  rw [← hs, ← Nat.zero_add (List.sum _)]
  show Ideal.hostReduceWindowAdd ![1, 1, 512] ![1, 1, 1] ![0, 0, 511] ![0, 0, 0] Cert.Pre_routed.Facts.reduceWindows_S16x8x512_S16x8x512_w1s1p0_0_w1s1p0_0_w512s1p511_0 x (Ideal.ofBits .f32 0#32) (ix3 b e r) = _
  have hz : Ideal.ofBits .f32 0#32 = ((0 : ℕ) : EReal) := by simp
  rw [hz]
  unfold Ideal.hostReduceWindowAdd Host.reduceWindow
  refine fold_naturals (List.finRange Row.numel) _ (fun n => if 511 ≤ r.val + n.val then (if P (r.val + n.val - 511) then 1 else 0) else 0)
    (fun v n => ?_) 0
  have h0 : (Row.rowMajor.symm n 0).val = 0 := by rw [row_place]; rfl
  have h1 : (Row.rowMajor.symm n 1).val = 0 := by rw [row_place]; rfl
  have h2 : (Row.rowMajor.symm n 2).val = n.val := by rw [row_place]; rfl
  have hn : n.val < 512 := (n.cast row_numel).isLt
  dsimp only
  refine congrArg (v + ·) ?_
  split
  · next hin =>
    have h := hin 2
    change 511 ≤ r.val * 1 + (Row.rowMajor.symm n 2).val ∧ _ at h
    rw [h2] at h
    change 511 ≤ r.val * 1 + n.val ∧ _ at h
    rw [if_pos (by omega)]
    have hlt : r.val + n.val - 511 < 512 := by omega
    refine (congrArg x (funext fun a => Fin.ext ?_)).trans ((hx ⟨r.val + n.val - 511, hlt⟩).trans (mask_cast _))
    match a with
    | ⟨0, _⟩ =>
      show b.val * 1 + (Row.rowMajor.symm n 0).val - 0 = b.val
      rw [h0]; show b.val * 1 + 0 - 0 = _; omega
    | ⟨1, _⟩ =>
      show e.val * 1 + (Row.rowMajor.symm n 1).val - 0 = e.val
      rw [h1]; show e.val * 1 + 0 - 0 = _; omega
    | ⟨2, _⟩ =>
      show r.val * 1 + (Row.rowMajor.symm n 2).val - 511 = r.val + n.val - 511
      rw [h2]; show r.val * 1 + n.val - 511 = _; omega
  · next hin =>
    rw [if_neg]
    intro hle
    refine hin fun a => ?_
    match a with
    | ⟨0, _⟩ =>
      show 0 ≤ b.val * 1 + (Row.rowMajor.symm n 0).val ∧ b.val * 1 + (Row.rowMajor.symm n 0).val - 0 < 16
      rw [h0]; show 0 ≤ b.val * 1 + 0 ∧ b.val * 1 + 0 - 0 < 16; omega
    | ⟨1, _⟩ =>
      show 0 ≤ e.val * 1 + (Row.rowMajor.symm n 1).val ∧ e.val * 1 + (Row.rowMajor.symm n 1).val - 0 < 8
      rw [h1]; show 0 ≤ e.val * 1 + 0 ∧ e.val * 1 + 0 - 0 < 8; omega
    | ⟨2, _⟩ =>
      show 511 ≤ r.val * 1 + (Row.rowMajor.symm n 2).val ∧ r.val * 1 + (Row.rowMajor.symm n 2).val - 511 < 512
      rw [h2]; show 511 ≤ r.val * 1 + n.val ∧ r.val * 1 + n.val - 511 < 512; omega

/-! ## A block and an expert -/

/-- One less than a natural that is not zero. -/
theorem pred_real (n : ℕ) : (((n + 1 : ℕ) : ℕ) : EReal) - 1 = ((n : ℕ) : EReal) := by
  have h : (((n + 1 : ℕ) : ℕ) : EReal) = (((n : ℝ) + 1 : ℝ) : EReal) := by push_cast; rfl
  rw [h, ← EReal.coe_one, ← EReal.coe_sub]
  simp only [add_sub_cancel_right]
  rfl

/-- Ranks counted in order are slots, no two alike. -/
theorem routed_of_counts {N W : Fin 512 → EReal} {P : ℕ → Prop} [DecidablePred P] (hP : ∀ r : Fin 512, P r.val ↔ 0 ≤ N r)
    (hN : ∀ r : Fin 512, N r = if 0 ≤ N r then ((Nat.count P (r.val + 1) : ℕ) : EReal) - 1 else -1) (hW : ∀ r, 0 ≤ N r ∨ W r = 0) :
    Routed N W (Nat.count P 512) := by
  have taken : ∀ r : Fin 512, 0 ≤ N r → N r = ((Nat.count P r.val : ℕ) : EReal) := fun r h => by
    rw [hN r, if_pos h, Nat.count_succ, if_pos ((hP r).2 h), pred_real]
  have slot : ∀ (r : Fin 512) (k : ℕ), N r = ((k : ℕ) : EReal) → P r.val ∧ Nat.count P r.val = k := fun r k h => by
    by_cases h0 : 0 ≤ N r
    · exact ⟨(hP r).2 h0, nat_inj ((taken r h0).symm.trans h)⟩
    · rw [hN r, if_neg h0] at h
      exact absurd h.symm (nat_ne_neg k)
  refine ⟨Nat.count_le .., fun r => ?_, fun r r' k h h' => ?_⟩
  · by_cases h0 : 0 ≤ N r
    · exact .inl ⟨_, Nat.count_strict_mono ((hP r).2 h0) r.isLt, taken r h0⟩
    · exact .inr ⟨by rw [hN r, if_neg h0], (hW r).resolve_left h0⟩
  · exact Fin.ext (Nat.count_injective (slot r k h).1 (slot r' k h').1 ((slot r k h).2.trans (slot r' k h').2.symm))

/-- A count of at most 512, turned into a word. -/
theorem count_word (n : ℕ) (hn : n ≤ 512) : Ideal.fptosi 32 ((n : ℕ) : EReal) = BitVec.ofNat 32 n := by
  have h : ((n : ℕ) : EReal) = ((n : ℝ) : EReal) := rfl
  rw [h, Ideal.fptosi, Ideal.toIntClamped_coe, if_pos (Nat.cast_nonneg n), Int.floor_natCast]
  rw [min_eq_right (by norm_num <;> omega), max_eq_right (by norm_num <;> omega)]
  exact BitVec.ofInt_natCast 32 n

section
variable {x : FVec Ideal Cert.Pre_routed.S8192x1024 .f32} {h : FVec Ideal Cert.Pre_routed.S8192x1024 .bf16}
  {comb rank : FVec Ideal Cert.Pre_routed.S8192x128 .f32} {slots : FVec Ideal Cert.Pre_routed.S16x8x512 .f32}
  {counts : FVec Ideal Cert.Pre_routed.S16x8x128 .f32} {g : FVec Ideal Cert.Pre_routed.S1x1x1024 .f32} {gain : FVec Ideal Cert.Pre_routed.S1024 .f32}
  {wg wu : FVec Ideal Cert.Pre_routed.S1x8x1024x1408 .f32} {wd : FVec Ideal Cert.Pre_routed.S1x8x1408x1024 .f32}

/-- The word of `-1`. -/
theorem minus_one : Ideal.ofBits .f32 0xBF800000#32 = -1 := by
  simp [Ideal.ofBits, Ideal.ieee, -EReal.coe_mul]; norm_num

/-- Both of two conditions. -/
theorem both {a b : BitVec 1} (h : IntOp.andi a b = 1#1) : a = 1#1 ∧ b = 1#1 := by revert a b; decide

/-- Either of two conditions. -/
theorem either {a b : BitVec 1} (h : IntOp.ori a b = 1#1) : a = 1#1 ∨ b = 1#1 := by revert a b; decide

/-- A condition that holds. -/
theorem holds {p : Prop} [Decidable p] (h : BitVec.ofBool (decide p) = 1#1) : p := by
  by_contra hp
  rw [decide_eq_false hp] at h
  exact absurd h (by decide)

/-- Consistent tables route block `b` and expert `e`, the ranks by expert are the ranks, and the count is the number taken. -/
theorem routed_of (H : Cert.Pre_routed.fn (F := Ideal) x h comb rank slots counts g gain wg wu wd = fun _ => 1#1) (b : Fin 16) (e : Fin 8) :
    ∃ n, Routed (fun r => rank (ix2 ⟨b.val * 512 + r.val, by omega⟩ ⟨e.val, by omega⟩))
        (fun r => comb (ix2 ⟨b.val * 512 + r.val, by omega⟩ ⟨e.val, by omega⟩)) n
      ∧ (∀ r : Fin 512, slots (ix3 b e r) = rank (ix2 ⟨b.val * 512 + r.val, by omega⟩ ⟨e.val, by omega⟩))
      ∧ counts (ix3 b 0 ⟨e.val, by omega⟩) = ((n : ℕ) : EReal) := by
  classical
  let P : ℕ → Prop := fun k => ∃ hk : k < 512, 0 ≤ rank (ix2 ⟨b.val * 512 + k, by omega⟩ ⟨e.val, by omega⟩)
  have hP : ∀ r : Fin 512, P r.val ↔ 0 ≤ rank (ix2 ⟨b.val * 512 + r.val, by omega⟩ ⟨e.val, by omega⟩) :=
    fun r => ⟨fun h => h.2, fun h => ⟨r.isLt, h⟩⟩
  have all : ∀ r : Fin 512,
      ((rank (ix2 ⟨b.val * 512 + r.val, by omega⟩ ⟨e.val, by omega⟩) = if 0 ≤ rank (ix2 ⟨b.val * 512 + r.val, by omega⟩ ⟨e.val, by omega⟩)
          then ((Nat.count P (r.val + 1) : ℕ) : EReal) - 1 else -1)
        ∧ slots (ix3 b e r) = rank (ix2 ⟨b.val * 512 + r.val, by omega⟩ ⟨e.val, by omega⟩))
        ∧ counts (ix3 b 0 ⟨e.val, by omega⟩) = ((Nat.count P 512 : ℕ) : EReal)
        ∧ (0 ≤ rank (ix2 ⟨b.val * 512 + r.val, by omega⟩ ⟨e.val, by omega⟩) ∨ comb (ix2 ⟨b.val * 512 + r.val, by omega⟩ ⟨e.val, by omega⟩) = 0) := by
    intro r
    have t := congrFun H (ix3 b e r)
    pointwise [Cert.Pre_routed.fn, Cert.Pre_routed.fn_part1, Cert.Pre_routed.fn_where, Cert.Pre_routed.fn_where_1, Cert.Pre_routed.fn_cumsum] at t
    rw [running (P := P), running (P := P)] at t
    · obtain ⟨t, t4⟩ := both t
      obtain ⟨t, t3⟩ := both t
      obtain ⟨t1, t2⟩ := both t
      refine ⟨⟨?_, holds t2⟩, holds t3, (either t4).imp holds holds⟩
      refine (holds t1).trans ?_
      congr 1
      rw [id_eq]
      exact minus_one
    · intro r
      rw [id_eq]
      pointwise
      simp only [hP]
    · intro r
      rw [id_eq]
      pointwise
      simp only [hP]
  exact ⟨Nat.count P 512, routed_of_counts hP (fun r => (all r).1.1) (fun r => (all r).2.2), fun r => (all r).1.2, (all 0).2.1⟩
end

end Cert.Experts
-- ==== Proof.ExpertsCarry.lean ====
module

public import proofs.«01_k».proof.Proof.ExpertsParts
public import proofs.«01_k».proof.Proof.ExpertsRouting

@[expose] public section

/-! # What the accumulator carries

With consistent tables, after point `t` every row of the accumulator holds the sum, over the experts up to the
point's, of the token's weight times the expert's answer on the token's row, added one by one to zero. -/

noncomputable section

namespace Cert.Experts

open Cert.KernelIdeal Cert.KernelIdeal.Gen
open Idealize.ShloMosaic Idealize.ShloMosaic.TcCoe

variable (m : (ℓ : Loc nD τ sig) → Buf (Elt Ideal) ℓ) (c : Dev nD)

/-- What expert `e` adds to token `R`: the weight times the answer. -/
def brings (h : S8192x1024.Idx → EReal) (comb : S8192x128.Idx → EReal) (wg wu : S1x8x1024x1408.Idx → EReal) (wd : S1x8x1408x1024.Idx → EReal)
    (R : Fin 8192) (e : Fin 8) (j : Fin 1024) : EReal :=
  comb (ix2 R ⟨e.val, by omega⟩) * answer (fun i => h (ix2 R i)) (fun i k => wg (ix4 0 e i k)) (fun i k => wu (ix4 0 e i k))
    (fun k j => wd (ix4 0 e k j)) j

/-- The first `n` of eight terms added one by one to zero. -/
def total (f : Fin 8 → EReal) : ℕ → EReal
  | 0 => 0
  | n + 1 => total f n + (if h : n < 8 then f ⟨n, h⟩ else 0)

/-- The same of the program's arguments. -/
abbrev added (R : Fin 8192) (e : Fin 8) (j : Fin 1024) : EReal :=
  brings (m ((c : Thread nD τ).loc main_arg1)) (m ((c : Thread nD τ).loc main_arg2)) (m ((c : Thread nD τ).loc main_arg8))
    (m ((c : Thread nD τ).loc main_arg9)) (m ((c : Thread nD τ).loc main_arg10)) R e j

/-- The tables are consistent for every block and expert. -/
def AllRouted : Prop := ∀ (b : Fin 16) (e : Fin 8),
  ∃ n, Routed (fun r => m ((c : Thread nD τ).loc main_arg3) (ix2 ⟨b.val * 512 + r.val, by omega⟩ ⟨e.val, by omega⟩))
      (fun r => m ((c : Thread nD τ).loc main_arg2) (ix2 ⟨b.val * 512 + r.val, by omega⟩ ⟨e.val, by omega⟩)) n
    ∧ (∀ r : Fin 512, m ((c : Thread nD τ).loc main_arg4) (ix3 b e r)
        = m ((c : Thread nD τ).loc main_arg3) (ix2 ⟨b.val * 512 + r.val, by omega⟩ ⟨e.val, by omega⟩))
    ∧ m ((c : Thread nD τ).loc main_arg5) (ix3 b 0 ⟨e.val, by omega⟩) = ((n : ℕ) : EReal)

/-! ## The words and offsets of a point -/

theorem expert_of : ∀ t : Fin grid0.N, (grid0.coords t 1).val = t.val % 8 := by decide +kernel
theorem off1_of : ∀ t : Fin grid0.N, k0_off1 (grid0.coords t) = ![(t.val / 8 * 2 + 0) * 8 + t.val % 8] := by decide +kernel
theorem off6_of : ∀ t : Fin grid0.N, k0_off6 (grid0.coords t) = ![(t.val / 8 * 2 + 1) * 8 + t.val % 8] := by decide +kernel
theorem off2_of : ∀ t : Fin grid0.N, k0_off2 (grid0.coords t) = ![0, t.val % 8, 0] := by decide +kernel
theorem off7_of : ∀ t : Fin grid0.N, k0_off7 (grid0.coords t) = ![1, t.val % 8, 0] := by decide +kernel
theorem first_of : ∀ t : Fin grid0.N,
    Scalar.cmpi .ne (Scalar.extui (Scalar.cmpi .eq (BitVec.ofNat 32 (grid0.coords t 1).val) 0#32)) 0#32 = 1#1 ↔ t.val % 8 = 0 := by decide +kernel

/-- The point's expert. -/
abbrev expert (t : Fin grid0.N) : Fin 8 := ⟨t.val % 8, Nat.mod_lt _ (by decide)⟩

/-- The token at a row of a point. -/
abbrev token (t : Fin grid0.N) (r : Fin 1024) : Fin 8192 := ⟨t.val / 8 * 1024 + r.val, token_lt t r⟩

/-- A row of one of the two halves. -/
abbrev rowOf (half : Fin 2) (r : Fin 512) : Fin 1024 := ⟨half.val * 512 + r.val, by omega⟩

/-! ## One half -/

/-- A half's block adds what the expert gives to each of its tokens. -/
theorem half_at (H : AllRouted m c) (t : Fin grid0.N) (half : Fin 2) {cw ew : BitVec 32}
    (hcw : cw = V m c main_v9 (ix1 ⟨(t.val / 8 * 2 + half.val) * 8 + t.val % 8, by have ht : t.val < 64 := t.isLt; omega⟩))
    (hew : ew = BitVec.ofNat 32 (t.val % 8))
    {sl : Vec Ideal S1x1x512 .f32} (hsl : ∀ r, sl (ix3 0 0 r) = part m c 4 t (ix3 half (expert t) r))
    {h : Vec Ideal S512x1024 .bf16} (hh : ∀ r i, h (ix2 r i) = part m c 1 t (ix2 (rowOf half r) i))
    {rank weight : Vec Ideal S512x128 .f32} (hrank : ∀ r i, rank (ix2 r i) = part m c 3 t (ix2 (rowOf half r) i))
    (hweight : ∀ r i, weight (ix2 r i) = part m c 2 t (ix2 (rowOf half r) i))
    (a : Vec Ideal S512x1024 .f32) (r : Fin 512) (j : Fin 1024) :
    block cw ew sl h (part m c 7 t) (part m c 8 t) (part m c 9 t) rank weight a (ix2 r j)
      = a (ix2 r j) + added m c (token t (rowOf half r)) (expert t) j := by
  obtain ⟨n, R, hs, hc⟩ := H ⟨t.val / 8 * 2 + half.val, half_lt t half⟩ (expert t)
  have tok : ∀ r : Fin 512, (⟨(t.val / 8 * 2 + half.val) * 512 + r.val, by have := half_lt t half; omega⟩ : Fin 8192) = token t (rowOf half r) :=
    fun r => Fin.ext (show (t.val / 8 * 2 + half.val) * 512 + r.val = t.val / 8 * 1024 + (half.val * 512 + r.val) by omega)
  have eN : (fun r : Fin 512 => rank (ix2 r ⟨(expert t).val, by omega⟩))
      = fun r => m ((c : Thread nD τ).loc main_arg3) (ix2 ⟨(t.val / 8 * 2 + half.val) * 512 + r.val, by have := half_lt t half; omega⟩ ⟨(expert t).val, by omega⟩) := by
    funext r
    rw [hrank, rank_at, tok]
  have eW : (fun r : Fin 512 => weight (ix2 r ⟨(expert t).val, by omega⟩))
      = fun r => m ((c : Thread nD τ).loc main_arg2) (ix2 ⟨(t.val / 8 * 2 + half.val) * 512 + r.val, by have := half_lt t half; omega⟩ ⟨(expert t).val, by omega⟩) := by
    funext r
    rw [hweight, weight_at, tok]
  have R' : Routed (fun r : Fin 512 => rank (ix2 r ⟨(expert t).val, by omega⟩)) (fun r : Fin 512 => weight (ix2 r ⟨(expert t).val, by omega⟩)) n := by
    rw [eN, eW]; exact R
  have hs' : ∀ r, sl (ix3 0 0 r) = rank (ix2 r ⟨(expert t).val, by omega⟩) := fun r => by
    rw [hsl, slots_at, hs r]
    exact (congrFun eN r).symm
  have hw : cw = BitVec.ofNat 32 n := by
    rw [hcw]
    refine (host_count m c ⟨t.val / 8 * 2 + half.val, half_lt t half⟩ (expert t)).trans ?_
    rw [hc, count_word n R.count_le]
  rw [hw, hew]
  refine (block_at (e := expert t) R' hs' r j).trans ?_
  congr 1
  unfold added share brings
  rw [hweight, weight_at]
  congr 1
  congr 1
  · funext i; rw [hh, rows_at]
  · funext i k; rw [wgate_at]
  · funext i k; rw [wup_at]
  · funext k j; rw [wdown_at]

/-! ## Both halves -/

/-- A window of 512 rows, read. -/
theorem window_rows {α : Type} {w : ℕ} (x : (⟨2, ![1024, w]⟩ : Shape).Idx → α) (o : ℕ)
    (inb : ∀ a, (![o, 0] : Fin 2 → ℕ) a + (⟨2, ![512, w]⟩ : Shape).size a ≤ (⟨2, ![1024, w]⟩ : Shape).size a) (r : Fin 512) (i : Fin w) (hr : o + r.val < 1024) :
    VecWindow.window x ![o, 0] (⟨2, ![512, w]⟩ : Shape).size inb (ix2 r i) = x (ix2 ⟨o + r.val, hr⟩ i) := by
  unfold VecWindow.window
  refine congrArg x (funext fun a => Fin.ext ?_)
  match a with
  | ⟨0, _⟩ => show o + 1 * r.val = o + r.val; omega
  | ⟨1, _⟩ => show 0 + 1 * i.val = i.val; omega

/-- Rows written. -/
theorem put_in {α : Type} (a : S1024x1024.Idx → α) (o : ℕ) (u : S512x1024.Idx → α) (r : Fin 512) (j : Fin 1024) (hr : o + r.val < 1024) :
    VecWindow.put a ![o, 0] S512x1024.size u (ix2 ⟨o + r.val, hr⟩ j) = u (ix2 r j) := by
  have h : ∀ b : Fin 2, (![o, 0] : Fin 2 → ℕ) b ≤ (ix2 (⟨o + r.val, hr⟩ : Fin 1024) j b).val
      ∧ (ix2 (⟨o + r.val, hr⟩ : Fin 1024) j b).val < (![o, 0] : Fin 2 → ℕ) b + S512x1024.size b := fun b => by
    have h1 := r.isLt
    have h2 := j.isLt
    match b with
    | ⟨0, _⟩ => show o ≤ o + r.val ∧ o + r.val < o + 512; omega
    | ⟨1, _⟩ => show 0 ≤ j.val ∧ j.val < 0 + 1024; omega
  unfold VecWindow.put
  rw [dif_pos h]
  refine congrArg u (funext fun b => Fin.ext ?_)
  match b with
  | ⟨0, _⟩ => show o + r.val - o = r.val; omega
  | ⟨1, _⟩ => show j.val - 0 = j.val; omega

/-- Rows left alone. -/
theorem put_out {α : Type} (a : S1024x1024.Idx → α) (o : ℕ) (u : S512x1024.Idx → α) (r : Fin 1024) (j : Fin 1024) (hr : r.val < o ∨ o + 512 ≤ r.val) :
    VecWindow.put a ![o, 0] S512x1024.size u (ix2 r j) = a (ix2 r j) := by
  unfold VecWindow.put
  rw [dif_neg]
  intro h
  have h0 : o ≤ r.val ∧ r.val < o + 512 := h 0
  omega

section
variable (t : Fin grid0.N)

/-- The table's word for the first half. -/
theorem count_top (T : Vec Ideal S128 .i32) : countTop (grid0.coords t) T
    = T (ix1 ⟨(t.val / 8 * 2 + (0 : Fin 2).val) * 8 + t.val % 8, by have ht : t.val < 64 := t.isLt; show (t.val / 8 * 2 + 0) * 8 + t.val % 8 < 128; omega⟩) := by
  unfold countTop
  refine congrArg T (funext fun a => Fin.ext ?_)
  match a with
  | ⟨0, _⟩ =>
    show k0_off1 (grid0.coords t) 0 + 1 * 0 = _
    rw [off1_of]; rfl

/-- The table's word for the second half. -/
theorem count_bot (T : Vec Ideal S128 .i32) : countBot (grid0.coords t) T
    = T (ix1 ⟨(t.val / 8 * 2 + (1 : Fin 2).val) * 8 + t.val % 8, by have ht : t.val < 64 := t.isLt; show (t.val / 8 * 2 + 1) * 8 + t.val % 8 < 128; omega⟩) := by
  unfold countBot
  refine congrArg T (funext fun a => Fin.ext ?_)
  match a with
  | ⟨0, _⟩ =>
    show k0_off6 (grid0.coords t) 0 + 1 * 0 = _
    rw [off6_of]; rfl

/-- The ranks the first half reads. -/
theorem slots_top (x : Vec Ideal S2x8x512 .f32) (r : Fin 512) :
    VecWindow.window x (k0_off2 (grid0.coords t)) S1x1x512.size (k0_off2_inb (grid0.coords t)) (ix3 0 0 r) = x (ix3 0 (expert t) r) := by
  unfold VecWindow.window
  refine congrArg x (funext fun a => Fin.ext ?_)
  match a with
  | ⟨0, _⟩ => show k0_off2 (grid0.coords t) 0 + 1 * 0 = _; rw [off2_of]; rfl
  | ⟨1, _⟩ => show k0_off2 (grid0.coords t) 1 + 1 * 0 = _; rw [off2_of]; rfl
  | ⟨2, _⟩ => show k0_off2 (grid0.coords t) 2 + 1 * r.val = _; rw [off2_of]; show 0 + 1 * r.val = r.val; omega

/-- The ranks the second half reads. -/
theorem slots_bot (x : Vec Ideal S2x8x512 .f32) (r : Fin 512) :
    VecWindow.window x (k0_off7 (grid0.coords t)) S1x1x512.size (k0_off7_inb (grid0.coords t)) (ix3 0 0 r) = x (ix3 1 (expert t) r) := by
  unfold VecWindow.window
  refine congrArg x (funext fun a => Fin.ext ?_)
  match a with
  | ⟨0, _⟩ => show k0_off7 (grid0.coords t) 0 + 1 * 0 = _; rw [off7_of]; rfl
  | ⟨1, _⟩ => show k0_off7 (grid0.coords t) 1 + 1 * 0 = _; rw [off7_of]; rfl
  | ⟨2, _⟩ => show k0_off7 (grid0.coords t) 2 + 1 * r.val = _; rw [off7_of]; show 0 + 1 * r.val = r.val; omega

end

/-- A point adds what its expert gives to each token's row. -/
theorem next_at (H : AllRouted m c) (t : Fin grid0.N) (acc : Vec Ideal S1024x1024 .f32) (r : Fin 1024) (j : Fin 1024) :
    next (grid0.coords t) (V m c main_v9) (part m c 1 t) (part m c 2 t) (part m c 3 t) (part m c 4 t) (part m c 7 t) (part m c 8 t) (part m c 9 t) acc (ix2 r j)
      = begun (grid0.coords t) acc (ix2 r j) + added m c (token t r) (expert t) j := by
  unfold next
  generalize begun (grid0.coords t) acc = a
  by_cases hr : r.val < 512
  · obtain ⟨r', rfl⟩ : ∃ r' : Fin 512, r = rowOf 0 r' := ⟨⟨r.val, hr⟩, Fin.ext (by show r.val = 0 * 512 + r.val; omega)⟩
    unfold workBot
    rw [put_out _ 512 _ _ _ (.inl hr)]
    unfold workTop
    have e : rowOf 0 r' = ⟨0 + r'.val, by omega⟩ := Fin.ext (by show 0 * 512 + r'.val = 0 + r'.val; omega)
    rw [e, put_in, ← e]
    refine (half_at m c H t 0 (count_top t _) (by rw [expert_of]) (fun r => slots_top t _ r) (fun r i => ?_) (fun r i => ?_) (fun r i => ?_) _ r' j).trans ?_
    · exact (window_rows _ 0 _ r i (by omega)).trans (by congr 2)
    · exact (window_rows _ 0 _ r i (by omega)).trans (by congr 2)
    · exact (window_rows _ 0 _ r i (by omega)).trans (by congr 2)
    · rw [window_rows _ 0 _ r' j (by omega), ← e]
  · obtain ⟨r', rfl⟩ : ∃ r' : Fin 512, r = rowOf 1 r' :=
      ⟨⟨r.val - 512, by omega⟩, Fin.ext (by show r.val = 1 * 512 + (r.val - 512); omega)⟩
    unfold workBot
    have e : rowOf 1 r' = ⟨512 + r'.val, by omega⟩ := Fin.ext (by show 1 * 512 + r'.val = 512 + r'.val; omega)
    rw [e, put_in, ← e]
    refine (half_at m c H t 1 (count_bot t _) (by rw [expert_of]) (fun r => slots_bot t _ r) (fun r i => ?_) (fun r i => ?_) (fun r i => ?_) _ r' j).trans ?_
    · exact (window_rows _ 512 _ r i (by omega)).trans (by congr 2)
    · exact (window_rows _ 512 _ r i (by omega)).trans (by congr 2)
    · exact (window_rows _ 512 _ r i (by omega)).trans (by congr 2)
    · rw [window_rows _ 512 _ r' j (by omega), ← e]
      unfold workTop
      rw [put_out _ 0 _ _ _ (.inr (by show 0 + 512 ≤ 1 * 512 + r'.val; omega))]

/-! ## All the points -/

/-- The next term of the sum is the point's expert's. -/
theorem total_succ (t : Fin grid0.N) (r j : Fin 1024) :
    total (fun e => added m c (token t r) e j) (t.val % 8 + 1)
      = total (fun e => added m c (token t r) e j) (t.val % 8) + added m c (token t r) (expert t) j := by
  rw [total, dif_pos (Nat.mod_lt _ (by decide))]

/-- The first expert of a tile begins the sum. -/
theorem begun_total (t : Fin grid0.N) (h0 : t.val % 8 = 0) (acc : Vec Ideal S1024x1024 .f32) (r j : Fin 1024) :
    begun (grid0.coords t) acc (ix2 r j) + added m c (token t r) (expert t) j
      = total (fun e => added m c (token t r) e j) (t.val % 8 + 1) := by
  rw [total_succ]
  refine congrArg (· + _) ?_
  unfold begun
  rw [if_pos ((first_of t).2 h0), h0, total]
  pointwise [k0_pay22]

/-- What the accumulator holds after a point. -/
theorem carry_at (H : AllRouted m c) : ∀ (n : ℕ) (hn : n < grid0.N) (r j : Fin 1024),
    carry m c (n + 1) (ix2 r j) = total (fun e => added m c (token ⟨n, hn⟩ r) e j) (n % 8 + 1) := by
  intro n
  induction n with
  | zero =>
    intro hn r j
    rw [carry_succ m c ⟨0, hn⟩, next_at m c H]
    exact begun_total m c ⟨0, hn⟩ rfl _ r j
  | succ n ih =>
    intro hn r j
    rw [carry_succ m c ⟨n + 1, hn⟩, next_at m c H]
    by_cases h0 : (n + 1) % 8 = 0
    · exact begun_total m c ⟨n + 1, hn⟩ h0 _ r j
    · unfold begun
      rw [if_neg (fun h => h0 ((first_of ⟨n + 1, hn⟩).1 h))]
      refine (congrArg (· + _) (ih (by omega) r j)).trans ?_
      have ht : token ⟨n, by omega⟩ r = token ⟨n + 1, hn⟩ r :=
        Fin.ext (show n / 8 * 1024 + r.val = (n + 1) / 8 * 1024 + r.val by have : n / 8 = (n + 1) / 8 := by omega
                                                                           rw [this])
      rw [ht, show n % 8 + 1 = (n + 1) % 8 by omega, total_succ m c ⟨n + 1, hn⟩ r j]

end Cert.Experts
-- ==== Proof.ExpertsReference.lean ====
module

public import proofs.«01_k».proof.Proof.Gen.ReferenceIdeal.Run
public import proofs.«01_k».proof.Proof.ExpertsCarry
public import Idealize.ShloMosaic.Lib.Pointwise

@[expose] public section

/-! # What the reference computes

The reference runs every expert on every token and adds the weighted answers one by one to zero; at an element that is
`total` of the eight terms, gated and added to the residual stream. -/

noncomputable section

namespace Cert.Experts

open Cert.ReferenceIdeal Cert.ReferenceIdeal.Gen Cert.ReferenceIdeal.Value
open Idealize.ShloMosaic Idealize.ShloMosaic.StableHlo

/-- The eight terms, in order. -/
theorem total_eight (f : Fin 8 → EReal) : total f 8 = f 0 + f 1 + f 2 + f 3 + f 4 + f 5 + f 6 + f 7 := by
  refine Eq.trans (b := 0 + f 0 + f 1 + f 2 + f 3 + f 4 + f 5 + f 6 + f 7) ?_ (by rw [zero_add])
  simp only [total]; rfl

/-- The stream after the experts, at an element. -/
theorem reference_stream (V0 : Valuation τ sig (Elt Ideal)) (R : Fin 8192) (j : Fin 1024) :
    res_main_v125 (F := Ideal) V0 (ix2 R j)
      = (show EReal from V0 (Proc.devRef .tc main_arg0) (ix2 R j)) + (show EReal from V0 (Proc.devRef .tc main_arg6) (ix3 0 0 j))
        * total (fun e => brings (V0 (Proc.devRef .tc main_arg1)) (V0 (Proc.devRef .tc main_arg2)) (V0 (Proc.devRef .tc main_arg8))
            (V0 (Proc.devRef .tc main_arg9)) (V0 (Proc.devRef .tc main_arg10)) R e j) 8 := by
  pointwise [res_main_v125, res_main_v76, res_main_v114, res_main_v99, res_main_v84, res_main_v69, res_main_v54, res_main_v39, res_main_v24, res_main_v9, res_main_v0]
  rw [total_eight]
  rfl

end Cert.Experts
-- ==== Proof.ExpertsResult.lean ====
module

public import proofs.«01_k».proof.Proof.ExpertsReference
public import Idealize.ShloMosaic.Lib.Pipeline.Covers

@[expose] public section

/-! # The experts' call and the reference end with the same array

The last point of a block finishes its rows: the stream plus the gated sum, normalised by its root mean square and
scaled. With the accumulator holding the sum over all eight experts, that is the reference's array. -/

set_option maxRecDepth 16384

noncomputable section

namespace Cert.Experts

open Idealize.ShloMosaic Idealize.ShloMosaic.TcCoe Idealize.ShloMosaic.StableHlo
open Idealize.ShloMosaic.Pipeline (Dat)

section Words

open Cert.ReferenceIdeal Cert.ReferenceIdeal.Gen Cert.ReferenceIdeal.Value

/-- The stream after the experts. -/
def streamed (x : S8192x1024.Idx → EReal) (gate : S1x1x1024.Idx → EReal) (h : S8192x1024.Idx → EReal) (comb : S8192x128.Idx → EReal)
    (wg wu : S1x8x1024x1408.Idx → EReal) (wd : S1x8x1408x1024.Idx → EReal) : FVec Ideal S8192x1024 .f32 :=
  fun i => x (ix2 (i 0) (i 1)) + gate (ix3 0 0 (i 1)) * total (fun e => brings h comb wg wu wd (i 0) e (i 1)) 8

/-- The rows over their root mean square, scaled. -/
def finished (z : FVec Ideal S8192x1024 .f32) (gain : FVec Ideal S1024 .f32) : FVec Ideal S8192x1024 .f32 :=
  mulf (mulf z (broadcastInDim S8192x1024 ![0, 1] bcast_S8192x1_S8192x1024_0_1 (Host.rsqrt (addf (Host.divf (broadcastInDim S8192x1 ![0] bcast_S8192_S8192x1_0 (Host.reduceAdd (mulf z z) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 gain))

/-- The reference's stream, by its arguments. -/
theorem reference_streamed (V0 : Valuation τ sig (Elt Ideal)) : res_main_v125 (F := Ideal) V0
    = streamed (V0 (Proc.devRef .tc main_arg0)) (V0 (Proc.devRef .tc main_arg6)) (V0 (Proc.devRef .tc main_arg1)) (V0 (Proc.devRef .tc main_arg2))
        (V0 (Proc.devRef .tc main_arg8)) (V0 (Proc.devRef .tc main_arg9)) (V0 (Proc.devRef .tc main_arg10)) := by
  funext i
  idx_vars i
  exact reference_stream V0 _ _

end Words

open Cert.KernelIdeal Cert.KernelIdeal.Gen

variable (m : (ℓ : Loc nD τ sig) → Buf (Elt Ideal) ℓ) (c : Dev nD)

/-- The stream after the experts, of the program's arguments. -/
abbrev stream : FVec Ideal S8192x1024 .f32 :=
  streamed (m ((c : Thread nD τ).loc main_arg0)) (m ((c : Thread nD τ).loc main_arg6)) (m ((c : Thread nD τ).loc main_arg1))
    (m ((c : Thread nD τ).loc main_arg2)) (m ((c : Thread nD τ).loc main_arg8)) (m ((c : Thread nD τ).loc main_arg9)) (m ((c : Thread nD τ).loc main_arg10))

/-- The points that write the result are the last of their blocks. -/
theorem last_of : ∀ t : Fin grid0.N, k0_cond10 (grid0.coords t) = 1#1 → t.val % 8 + 1 = 8 := by decide +kernel

/-- What a block's last point works on is the stream. -/
theorem gated_at (H : AllRouted m c) (t : Fin grid0.N) (h8 : t.val % 8 + 1 = 8) (r j : Fin 1024) :
    (show EReal from part m c 0 t (ix2 r j)) + (show EReal from part m c 5 t (ix3 0 0 j)) * (show EReal from carry m c (t.val + 1) (ix2 r j))
      = stream m c (ix2 (token t r) j) := by
  rw [stream_at m c t r j, scale_at m c t j, carry_at m c H t.val t.isLt r j, h8]
  rfl

/-- One element of a finished block. -/
theorem done_at (H : AllRouted m c) (t : Fin grid0.N) (h8 : t.val % 8 + 1 = 8) (r j : Fin 1024) :
    done m c t (ix2 r j) = finished (stream m c) (m ((c : Thread nD τ).loc main_arg7)) (ix2 (token t r) j) := by
  have hz := gated_at m c H t h8
  have hg := gain_at m c t
  unfold done
  generalize part m c 0 t = X at *
  generalize part m c 5 t = G at *
  generalize part m c 6 t = N at *
  generalize carry m c (t.val + 1) = A at *
  generalize stream m c = Z at *
  pointwise [k0_pay5, finished]
  dsimp only at hz
  simp only [hg, hz]

/-- The result has eight blocks of rows. -/
theorem nblk_0 : ((cfgT m).win 10).nblk ⟨0, show 0 < 2 by omega⟩ = 8 := by
  have a : ((cfgT m).win 10).shape.size ⟨0, show 0 < 2 by omega⟩ = 8192 := rfl
  have b : ((cfgT m).win 10).size ⟨0, show 0 < 2 by omega⟩ = 1024 := rfl
  unfold Pipeline.Window.nblk
  rw [a, b]

/-- Each is as wide as the result. -/
theorem nblk_1 : ((cfgT m).win 10).nblk ⟨1, show 1 < 2 by omega⟩ = 1 := by
  have a : ((cfgT m).win 10).shape.size ⟨1, show 1 < 2 by omega⟩ = 1024 := rfl
  have b : ((cfgT m).win 10).size ⟨1, show 1 < 2 by omega⟩ = 1024 := rfl
  unfold Pipeline.Window.nblk
  rw [a, b]

/-- The blocks cover the result. -/
theorem covers : ((cfgT m).win 10).Covers := by
  refine Pipeline.Window.covers_of_index_surj _ rfl ?_ ?_
  · intro a
    match a with
    | ⟨0, _⟩ => show 0 < 1024; omega
    | ⟨1, _⟩ => show 0 < 1024; omega
  · intro b
    have h0 : (b ⟨0, show 0 < 2 by omega⟩).val < 8 := lt_of_lt_of_eq (b ⟨0, show 0 < 2 by omega⟩).isLt (nblk_0 m)
    have h1 : (b ⟨1, show 1 < 2 by omega⟩).val < 1 := lt_of_lt_of_eq (b ⟨1, show 1 < 2 by omega⟩).isLt (nblk_1 m)
    obtain ⟨t, ht⟩ : ∃ t : Fin grid0.N, t.val = (b ⟨0, show 0 < 2 by omega⟩).val * 8 :=
      ⟨⟨(b ⟨0, show 0 < 2 by omega⟩).val * 8, lt_of_lt_of_eq (show _ < 64 by omega) (show 64 = grid0.N by decide)⟩, rfl⟩
    refine ⟨t, fun a => ?_⟩
    match a with
    | ⟨0, _⟩ =>
      show cc0_transform_10 (grid0.coords t) 0 = _
      rw [place_10]
      show t.val / 8 = (b ⟨0, show 0 < 2 by omega⟩).val
      omega
    | ⟨1, _⟩ =>
      show cc0_transform_10 (grid0.coords t) 1 = _
      rw [place_10]
      show 0 = (b ⟨1, show 1 < 2 by omega⟩).val
      omega

/-- Where an element of a block lies in the result. -/
theorem place (t : Fin grid0.N) (r j : Fin 1024) : (((cfgT m).win 10).blk t).view.emb (ix2 r j) = ix2 (token t r) j := by
  funext a
  refine Fin.ext ?_
  match a with
  | ⟨0, _⟩ =>
    blk_simp
    show cc0_transform_10 (grid0.coords t) 0 * 1024 + r.val = _
    rw [place_10]
    rfl
  | ⟨1, _⟩ =>
    blk_simp
    show cc0_transform_10 (grid0.coords t) 1 * 1024 + j.val = _
    rw [place_10]
    exact (congrArg (· + _) (Nat.zero_mul 1024)).trans (Nat.zero_add _)

/-- The result array after the run. -/
theorem array (H : AllRouted m c) : (dats m 0 c).arrAt 10 (cfgT m).N
    = finished (stream m c) (m ((c : Thread nD τ).loc main_arg7)) := by
  refine (dats m 0 c).arrAt_eq_of_covers 10 _ (covers m) fun t hf y => ?_
  have hl : k0_cond10 (grid0.coords t) = 1#1 := by
    by_contra hn
    exact Bool.false_ne_true ((kept_10 m t hn).symm.trans hf)
  rw [after_10]
  obtain ⟨r, j, rfl⟩ : ∃ (r j : Fin 1024), (ix2 r j : S1024x1024.Idx) = y := by
    change S1024x1024.Idx at y
    exact ⟨y 0, y 1, by funext a; match a with | ⟨0, _⟩ => rfl | ⟨1, _⟩ => rfl⟩
  exact (done_at m c H t (last_of t hl) r j).trans (congrArg (finished _ _) (place m t r j).symm)

/-- Kernel and reference end with the same array. -/
theorem same_results : Cert.algebraic_KernelIdeal_ReferenceIdeal_pre_routed := by
  intro m g m' g' hpre hagree
  refine ⟨fun c => finished (stream m c) (m ((c : Thread nD τ).loc main_arg7)), ?_, ?_⟩
  · refine (θ_run _ _ _).mono (fun r h c => ?_) (θ_run_and (run_all m g) (frame m g))
    exact ⟨((h.1.1 c).1 10).trans (array m c fun b e => routed_of (hpre c) b e), h.2.1 c⟩
  · refine (θ_run _ _ _).mono (fun r h c => ?_) (Cert.ReferenceIdeal.Value.run (F := Ideal) m' g')
    refine ⟨(h c).1.trans ?_, (h c).2⟩
    obtain ⟨h0, h1, h2, h3, h4, h5, h6, h7, h8, h9, h10⟩ := hagree c
    rw [reference_streamed]
    simp only [launchContents_devRef, h0, h1, h2, h6, h7, h8, h9, h10]
    rfl

end Cert.Experts
-- ==== Proof.FeedForward.lean ====
/-
  The gated feed-forward of the first layer, with the mixer's output projection before it (`Kernel2`).
-/
module

public import proofs.«01_k».proof.Proof.Gen.Kernel2Ideal.Value
public import proofs.«01_k».proof.Proof.Gen.Reference2Ideal.Run
public import proofs.«01_k».proof.Proof.Activation
public import Idealize.ShloMosaic.Lib.Pipeline.ValueKit
public import Idealize.ShloMosaic.Lib.Claim
public import proofs.«01_k».proof.Defs

@[expose] public section

set_option maxRecDepth 16384

noncomputable section

namespace Cert.FeedForward

open Idealize.ShloMosaic Idealize.ShloMosaic.TcCoe Idealize.SL.Sem
open Idealize.ShloMosaic.Pipeline (Dat)
open Cert.Reference2Ideal Cert.Reference2Ideal.Gen

/-- The residual stream after the mixers: `x` plus the gated product of the two mixers' outputs, side by side, with
    the output projection. -/
def mixed (a : FVec Ideal S8192x256 .bf16) (b : FVec Ideal S8192x768 .bf16) (x : FVec Ideal S8192x1024 .f32)
    (md : FVec Ideal S3x6x1x1024 .f32) (wo : FVec Ideal S1x1024x1024 .f32) : FVec Ideal S8192x1024 .f32 :=
  addf x (mulf (broadcastInDim S8192x1024 ![0, 1] bcast_S1x1024_S8192x1024_0_1
      (shapeCast S1x1024 (extractStridedSlice S1x1x1x1024 ![0, 2, 0, 0] md slices_S3x6x1x1024_S1x1x1x1024_0_2_0_0)
        shapeCasts_S1x1x1x1024_S1x1024))
    (Host.dotGeneral dot_S8192x1024_S1024x1024_S8192x1024_1_0_0_1_n_n none
      (concatenate S8192x1024 1 [⟨S8192x256, (extf .f32 a bitsLt_bf16_f32)⟩, ⟨S8192x768, (extf .f32 b bitsLt_bf16_f32)⟩]
        concatenates_S8192x256_S8192x768_S8192x1024_d1)
      (shapeCast S1024x1024 wo shapeCasts_S1x1024x1024_S1024x1024)))

/-- The modulated normalisation of the rows of `z` by the layer's second norm. -/
def rows (z : FVec Ideal S8192x1024 .f32) (md : FVec Ideal S3x6x1x1024 .f32) (n : FVec Ideal S1024 .f32) :
    FVec Ideal S8192x1024 .f32 :=
  addf (mulf (mulf (mulf z (broadcastInDim S8192x1024 ![0, 1] bcast_S8192x1_S8192x1024_0_1
      (Host.rsqrt (addf (Host.divf (broadcastInDim S8192x1 ![0] bcast_S8192_S8192x1_0
          (Host.reduceAdd (mulf z z) (constant S_ .f32 0x00000000#32) reducesTo_S8192x1024_S8192_d1 h_S_))
        (broadcastInDim S8192x1 ![] bcast_S_S8192x1 (constant S_ .f32 0x44800000#32)))
        (broadcastInDim S8192x1 ![] bcast_S_S8192x1 (constant S_ .f32 0x358637BD#32))))))
      (broadcastInDim S8192x1024 ![0, 1] bcast_S1x1024_S8192x1024_0_1 (broadcastInDim S1x1024 ![1] bcast_S1024_S1x1024_1 n)))
      (broadcastInDim S8192x1024 ![0, 1] bcast_S1x1024_S8192x1024_0_1
        (addf (broadcastInDim S1x1024 ![] bcast_S_S1x1024 (constant S_ .f32 0x3F800000#32))
          (shapeCast S1x1024 (extractStridedSlice S1x1x1x1024 ![0, 4, 0, 0] md slices_S3x6x1x1024_S1x1x1x1024_0_4_0_0)
            shapeCasts_S1x1x1x1024_S1x1024))))
    (broadcastInDim S8192x1024 ![0, 1] bcast_S1x1024_S8192x1024_0_1
      (shapeCast S1x1024 (extractStridedSlice S1x1x1x1024 ![0, 3, 0, 0] md slices_S3x6x1x1024_S1x1x1x1024_0_3_0_0)
        shapeCasts_S1x1x1x1024_S1x1024))

/-- One of the two hidden products. -/
def branch (t : FVec Ideal S8192x1024 .f32) (w : FVec Ideal S1x1024x2816 .f32) : FVec Ideal S8192x2816 .f32 :=
  Host.dotGeneral dot_S8192x1024_S1024x2816_S8192x2816_1_0_0_1_n_n none t
    (shapeCast S1024x2816 w shapeCasts_S1x1024x2816_S1024x2816)

/-- The gated hidden layer: `silu` of the one product times the other. -/
def gated (g u : FVec Ideal S8192x2816 .f32) : FVec Ideal S8192x2816 .f32 :=
  mulf (mulf g (Host.divf (broadcastInDim S8192x2816 ![] bcast_S_S8192x2816 (constant S_ .f32 0x3F800000#32))
    (addf (broadcastInDim S8192x2816 ![] bcast_S_S8192x2816 (constant S_ .f32 0x3F800000#32)) (Host.exp (Host.negf g))))) u

/-- The result: the stream plus the gated product of the hidden layer with the last matrix. -/
def result (z : FVec Ideal S8192x1024 .f32) (h : FVec Ideal S8192x2816 .f32) (md : FVec Ideal S3x6x1x1024 .f32)
    (wd : FVec Ideal S1x2816x1024 .f32) : FVec Ideal S8192x1024 .f32 :=
  addf z (mulf (broadcastInDim S8192x1024 ![0, 1] bcast_S1x1024_S8192x1024_0_1
      (shapeCast S1x1024 (extractStridedSlice S1x1x1x1024 ![0, 5, 0, 0] md slices_S3x6x1x1024_S1x1x1x1024_0_5_0_0)
        shapeCasts_S1x1x1x1024_S1x1024))
    (Host.dotGeneral dot_S8192x2816_S2816x1024_S8192x1024_1_0_0_1_n_n none h
      (shapeCast S2816x1024 wd shapeCasts_S1x2816x1024_S2816x1024)))

end Cert.FeedForward

namespace Cert.Kernel2Ideal.Point

open Idealize.ShloMosaic Idealize.ShloMosaic.TcCoe Idealize.SL.Sem
open Idealize.ShloMosaic.Pipeline (Dat)
open Cert.Kernel2Ideal Cert.Kernel2Ideal.Gen Cert.FeedForward

variable (m : (ℓ : Loc nD τ sig) → Buf (Elt Ideal) ℓ)

/-- Where each window's block sits at a grid point: the rows move with the point, the rest stays. -/
theorem place : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![0, 0] ∧ win0_6.index t = ![0, 0, 0]
    ∧ win0_7.index t = ![0, 0, 0] ∧ win0_8.index t = ![0, 0, 0] ∧ win0_9.index t = ![0, 0] ∧ win0_10.index t = ![0, 0]
    ∧ win0_11.index t = ![0, 0] ∧ win0_12.index t = ![t.val, 0] :=
  (by decide +kernel : ∀ t : Fin grid0.N, _)

/-- The reference's stream after the mixers, of the run's arguments. -/
abbrev stream (c : Dev nD) := mixed (m ((c : Thread nD τ).loc main_arg0)) (m ((c : Thread nD τ).loc main_arg1))
  (m ((c : Thread nD τ).loc main_arg2)) (m ((c : Thread nD τ).loc main_arg3)) (m ((c : Thread nD τ).loc main_arg5))

/-- The reference's normalised rows. -/
abbrev normed (c : Dev nD) := rows (stream m c) (m ((c : Thread nD τ).loc main_arg3)) (m ((c : Thread nD τ).loc main_arg4))

/-- The reference's hidden layer. -/
abbrev layer (c : Dev nD) := gated (branch (normed m c) (m ((c : Thread nD τ).loc main_arg6)))
  (branch (normed m c) (m ((c : Thread nD τ).loc main_arg7)))

/-- The block's stream after the mixers: the two mixers' columns are multiplied apart, and the sums added. -/
abbrev blockStream (c : Dev nD) (t : Fin cfg0.N) : FVec Ideal S512x1024 .f32 :=
  k0_pay5 (iblk m c 0 t) (View.ld (iblk m c 4 t) (Rect.unit ![0, 0] ![256, 1024] inb_S1024x1024_S256x1024_0_0))
    (iblk m c 1 t) (View.ld (iblk m c 4 t) (Rect.unit ![256, 0] ![768, 1024] inb_S1024x1024_S768x1024_256_0))
    (iblk m c 2 t) (iblk m c 3 t)

/-- The block's normalised rows. -/
abbrev blockRows (c : Dev nD) (t : Fin cfg0.N) : FVec Ideal S512x1024 .bf16 :=
  k0_pay1 (blockStream m c t) (k0_pay7 (iblk m c 5 t)) (k0_pay8 (iblk m c 6 t)) (k0_pay9 (iblk m c 7 t))
    (k0_pay10 (iblk m c 0 t) (View.ld (iblk m c 4 t) (Rect.unit ![0, 0] ![256, 1024] inb_S1024x1024_S256x1024_0_0))
      (iblk m c 1 t) (View.ld (iblk m c 4 t) (Rect.unit ![256, 0] ![768, 1024] inb_S1024x1024_S768x1024_256_0))
      (iblk m c 2 t) (iblk m c 3 t))

/-- The block's stream is the reference's at the block's place. -/
theorem stream_at (c : Dev nD) (t : Fin cfg0.N) (y) : blockStream m c t y = stream m c (((cfg0.win 12).blk t).view.emb y) := by
  unfold blockStream stream
  pointwise [k0_pay5, mixed]
  blk_point [iblk, V, place t]

/-- So are its normalised rows. -/
theorem rows_at (c : Dev nD) (t : Fin cfg0.N) (y) : blockRows m c t y = normed m c (((cfg0.win 12).blk t).view.emb y) := by
  have hx := stream_at m c t
  unfold blockRows normed
  unfold blockStream at *
  pointwise [k0_pay1, k0_pay7, k0_pay8, k0_pay9, k0_pay10, rows]
  simp only [hx]
  blk_point [iblk, V, place t]

/-- What a grid point leaves in the output's block: the stream, plus the gate times the sum begun at zero. -/
theorem block_eq (c : Dev nD) (t : Fin cfg0.N) (y) : outsAt0 m c t y
    = k0_pay4 (k0_pay6 (iblk m c 0 t) (View.ld (iblk m c 4 t) (Rect.unit ![0, 0] ![256, 1024] inb_S1024x1024_S256x1024_0_0))
          (iblk m c 1 t) (View.ld (iblk m c 4 t) (Rect.unit ![256, 0] ![768, 1024] inb_S1024x1024_S768x1024_256_0))
          (iblk m c 2 t) (iblk m c 3 t)) (iblk m c 8 t)
        (k0_pay3 (blockRows m c t) (iblk m c 9 t) (iblk m c 10 t) (k0_pay2 (F := Ideal)) (iblk m c 11 t)) y := by
  rw [outsAt0]
  frame_out
  rfl

/-- One element of the block. -/
theorem point (c : Dev nD) (t : Fin cfg0.N) (y) :
    outsAt0 m c t y
      = result (stream m c) (layer m c) (m ((c : Thread nD τ).loc main_arg3)) (m ((c : Thread nD τ).loc main_arg8)) (((cfg0.win 12).blk t).view.emb y) := by
  have hx := stream_at m c t
  have hr := rows_at m c t
  unfold layer
  rw [block_eq]
  generalize blockRows m c t = R at *
  generalize normed m c = N at *
  generalize stream m c = Z at *
  pointwise [k0_pay4, k0_pay6, k0_pay3, k0_pay2, result, gated, branch]
  simp only [hx, hr, Cert.Activation.factor]
  clear hx hr
  blk_point [iblk, V, place t]

/-- The result array after the run. -/
theorem array (c : Dev nD) : (dats m 0 c).arrAt 12 (cfgs 0).N
    = result (stream m c) (layer m c) (m ((c : Thread nD τ).loc main_arg3)) (m ((c : Thread nD τ).loc main_arg8)) := by
  refine (dats m 0 c).arrAt_eq_of_covers 12 _ (by decide +kernel) fun t _ y => ?_
  blk_simp
  rw [after0_12]
  exact point m c t y

end Cert.Kernel2Ideal.Point

namespace Cert.FeedForward

open Idealize.ShloMosaic Idealize.ShloMosaic.TcCoe Idealize.SL.Sem

set_option maxHeartbeats 1000000 in
/-- What the reference returns, by its stages. -/
theorem reference_eq (m' : (ℓ : Loc Cert.Reference2Ideal.nD Cert.Reference2Ideal.τ Cert.Reference2Ideal.sig) → Buf (Elt Ideal) ℓ)
    (c : Dev Cert.Reference2Ideal.nD) : Cert.Reference2Ideal.Value.res_main_v45 m' c
      = (let md := m' ((c : Thread Cert.Reference2Ideal.nD Cert.Reference2Ideal.τ).loc Cert.Reference2Ideal.main_arg3)
         let z := mixed (m' ((c : Thread Cert.Reference2Ideal.nD Cert.Reference2Ideal.τ).loc Cert.Reference2Ideal.main_arg0))
          (m' ((c : Thread Cert.Reference2Ideal.nD Cert.Reference2Ideal.τ).loc Cert.Reference2Ideal.main_arg1))
          (m' ((c : Thread Cert.Reference2Ideal.nD Cert.Reference2Ideal.τ).loc Cert.Reference2Ideal.main_arg2)) md
          (m' ((c : Thread Cert.Reference2Ideal.nD Cert.Reference2Ideal.τ).loc Cert.Reference2Ideal.main_arg5))
         let t := rows z md (m' ((c : Thread Cert.Reference2Ideal.nD Cert.Reference2Ideal.τ).loc Cert.Reference2Ideal.main_arg4))
         result z (gated (branch t (m' ((c : Thread Cert.Reference2Ideal.nD Cert.Reference2Ideal.τ).loc Cert.Reference2Ideal.main_arg6)))
           (branch t (m' ((c : Thread Cert.Reference2Ideal.nD Cert.Reference2Ideal.τ).loc Cert.Reference2Ideal.main_arg7)))) md
           (m' ((c : Thread Cert.Reference2Ideal.nD Cert.Reference2Ideal.τ).loc Cert.Reference2Ideal.main_arg8))) := by
  unfold Cert.Reference2Ideal.Value.res_main_v45 result gated branch rows mixed
  rfl

/-- Kernel and reference end with the same array. -/
theorem same_results : Cert.algebraic_Kernel2Ideal_Reference2Ideal := by
  pair_intro
  · run_from Cert.Kernel2Ideal.Gen.run_main m g
  · run_from Cert.Reference2Ideal.Value.run m' g'
    rw [reference_eq m' c, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]
    exact (Cert.Kernel2Ideal.Point.array m c).symm

end Cert.FeedForward

end
-- ==== Proof.SecondProjection.lean ====
/-
  The second layer's input projection (`Kernel3`): each grid point takes 512 rows, normalises them, applies the
  modulation's scale and shift, and multiplies by the whole weight matrix, whose first 256 columns go to one result
  and whose other 2688 columns to the other.  Each result array after the run is the reference's.
-/
module

public import proofs.«01_k».proof.Proof.Gen.Kernel3Ideal.Value
public import proofs.«01_k».proof.Proof.Gen.Reference3Ideal.Run
public import Idealize.ShloMosaic.Lib.Pipeline.ValueKit
public import Idealize.ShloMosaic.Lib.Claim
public import proofs.«01_k».proof.Defs

@[expose] public section

set_option maxRecDepth 16384

noncomputable section

namespace Cert.SecondProjection

open Idealize.ShloMosaic Idealize.ShloMosaic.TcCoe Idealize.SL.Sem
open Idealize.ShloMosaic.Pipeline (Dat)
open Cert.Reference3Ideal Cert.Reference3Ideal.Gen

/-- The reference's modulated normalisation of the rows of `x`: `x · rsqrt(mean x² + ε) · n · (1 + scale) + shift`. -/
abbrev rows (x : FVec Ideal S8192x1024 .f32) (md : FVec Ideal S3x6x1x1024 .f32) (n : FVec Ideal S1024 .f32) :
    FVec Ideal S8192x1024 .f32 :=
  addf (mulf (mulf (mulf x (broadcastInDim S8192x1024 ![0, 1] bcast_S8192x1_S8192x1024_0_1
      (Host.rsqrt (addf (Host.divf (broadcastInDim S8192x1 ![0] bcast_S8192_S8192x1_0
          (Host.reduceAdd (mulf x x) (constant S_ .f32 0x00000000#32) reducesTo_S8192x1024_S8192_d1 h_S_))
        (broadcastInDim S8192x1 ![] bcast_S_S8192x1 (constant S_ .f32 0x44800000#32)))
        (broadcastInDim S8192x1 ![] bcast_S_S8192x1 (constant S_ .f32 0x358637BD#32))))))
      (broadcastInDim S8192x1024 ![0, 1] bcast_S1x1024_S8192x1024_0_1 (broadcastInDim S1x1024 ![1] bcast_S1024_S1x1024_1 n)))
      (broadcastInDim S8192x1024 ![0, 1] bcast_S1x1024_S8192x1024_0_1
        (addf (broadcastInDim S1x1024 ![] bcast_S_S1x1024 (constant S_ .f32 0x3F800000#32))
          (shapeCast S1x1024 (extractStridedSlice S1x1x1x1024 ![0, 1, 0, 0] md slices_S3x6x1x1024_S1x1x1x1024_0_1_0_0)
            shapeCasts_S1x1x1x1024_S1x1024))))
    (broadcastInDim S8192x1024 ![0, 1] bcast_S1x1024_S8192x1024_0_1
      (shapeCast S1x1024 (extractStridedSlice S1x1x1x1024 ![0, 0, 0, 0] md slices_S3x6x1x1024_S1x1x1x1024_0_0_0_0)
        shapeCasts_S1x1x1x1024_S1x1024))

/-- The whole product of those rows with the weight matrix. -/
abbrev product (x : FVec Ideal S8192x1024 .f32) (md : FVec Ideal S3x6x1x1024 .f32) (n : FVec Ideal S1024 .f32)
    (w : FVec Ideal S1x1024x2944 .f32) : FVec Ideal S8192x2944 .f32 :=
  Host.dotGeneral dot_S8192x1024_S1024x2944_S8192x2944_1_0_0_1_n_n none (rows x md n)
    (shapeCast S1024x2944 w shapeCasts_S1x1024x2944_S1024x2944)

/-- The reference's first result: the product's first 256 columns. -/
abbrev narrow (x : FVec Ideal S8192x1024 .f32) (md : FVec Ideal S3x6x1x1024 .f32) (n : FVec Ideal S1024 .f32)
    (w : FVec Ideal S1x1024x2944 .f32) : FVec Ideal S8192x256 .f32 :=
  extractStridedSlice S8192x256 ![0, 0] (product x md n w) slices_S8192x2944_S8192x256_0_0

/-- Its second result: the other columns. -/
abbrev wide (x : FVec Ideal S8192x1024 .f32) (md : FVec Ideal S3x6x1x1024 .f32) (n : FVec Ideal S1024 .f32)
    (w : FVec Ideal S1x1024x2944 .f32) : FVec Ideal S8192x2688 .f32 :=
  extractStridedSlice S8192x2688 ![0, 256] (product x md n w) slices_S8192x2944_S8192x2688_0_256

end Cert.SecondProjection

namespace Cert.Kernel3Ideal.Point

open Idealize.ShloMosaic Idealize.ShloMosaic.TcCoe Idealize.SL.Sem
open Idealize.ShloMosaic.Pipeline (Dat)
open Cert.Kernel3Ideal Cert.Kernel3Ideal.Gen Cert.SecondProjection

variable (m : (ℓ : Loc nD τ sig) → Buf (Elt Ideal) ℓ)

/-- Where each window's block sits at a grid point: the rows move with the point, the rest stays. -/
theorem place : ∀ t : Fin cfg0.N, win0_0.index t = ![t.val, 0] ∧ win0_1.index t = ![0, 0] ∧ win0_2.index t = ![0, 0, 0]
    ∧ win0_3.index t = ![0, 0, 0] ∧ win0_4.index t = ![0, 0] ∧ win0_5.index t = ![t.val, 0] ∧ win0_6.index t = ![t.val, 0] :=
  (by decide +kernel : ∀ t : Fin grid0.N, _)

/-- One element of the first result's block. -/
theorem narrow_at (c : Dev nD) (t : Fin cfg0.N) (y) :
    out0_5 (iblk m c 0 t) (iblk m c 1 t) (iblk m c 2 t) (iblk m c 3 t) (iblk m c 4 t) y
      = narrow (m ((c : Thread nD τ).loc main_arg0)) (m ((c : Thread nD τ).loc main_arg1)) (m ((c : Thread nD τ).loc main_arg2))
          (m ((c : Thread nD τ).loc main_arg3)) (((cfg0.win 5).blk t).view.emb y) := by
  frame_out
  pointwise [k0_pay1, k0_pay2]
  blk_point [iblk, V, place t]

/-- One element of the second result's block. -/
theorem wide_at (c : Dev nD) (t : Fin cfg0.N) (y) :
    out0_6 (iblk m c 0 t) (iblk m c 1 t) (iblk m c 2 t) (iblk m c 3 t) (iblk m c 4 t) y
      = wide (m ((c : Thread nD τ).loc main_arg0)) (m ((c : Thread nD τ).loc main_arg1)) (m ((c : Thread nD τ).loc main_arg2))
          (m ((c : Thread nD τ).loc main_arg3)) (((cfg0.win 6).blk t).view.emb y) := by
  frame_out
  pointwise [k0_pay1, k0_pay3]
  blk_point [iblk, V, place t]

/-- The first result array after the run. -/
theorem narrow_array (c : Dev nD) : (dats m 0 c).arrAt 5 (cfgs 0).N
    = narrow (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]
  exact narrow_at m c t y

/-- The second result array after the run. -/
theorem wide_array (c : Dev nD) : (dats m 0 c).arrAt 6 (cfgs 0).N
    = wide (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t _ y => ?_
  blk_simp
  rw [after0_6]
  exact wide_at m c t y

end Cert.Kernel3Ideal.Point

namespace Cert.SecondProjection

open Idealize.ShloMosaic Idealize.ShloMosaic.TcCoe Idealize.SL.Sem

/-- Kernel and reference end with the same two arrays. -/
theorem same_results : Cert.algebraic_Kernel3Ideal_Reference3Ideal := by
  pair_intro
  · run_from Cert.Kernel3Ideal.Gen.run_main m g
  · run_from Cert.Reference3Ideal.Value.run m' g'
    · exact (Cert.Kernel3Ideal.Point.narrow_array m c).symm
    · exact (Cert.Kernel3Ideal.Point.wide_array m c).symm

end Cert.SecondProjection

end
-- ==== Proof.FirstProjection.lean ====
/-
  The first layer's input projection (`Kernel4`): each grid point normalises and modulates 512 rows as the second
  layer's does, and multiplies them by four column ranges of the weight matrix: 256 columns for the Fourier part and
  768 each for queries, keys and values.  Each of the four result arrays after the run is the reference's.
-/
module

public import proofs.«01_k».proof.Proof.SecondProjection
public import proofs.«01_k».proof.Proof.Gen.Kernel4Ideal.Value
public import proofs.«01_k».proof.Proof.Gen.Reference4Ideal.Run

@[expose] public section

set_option maxRecDepth 16384

noncomputable section

namespace Cert.FirstProjection

open Idealize.ShloMosaic Idealize.ShloMosaic.TcCoe Idealize.SL.Sem
open Cert.Reference4Ideal Cert.Reference4Ideal.Gen

variable (x : FVec Ideal S8192x1024 .f32) (md : FVec Ideal S3x6x1x1024 .f32) (n : FVec Ideal S1024 .f32)
  (w : FVec Ideal S1x1024x2560 .f32)

/-- The product of the normalised, modulated rows with the weight matrix. -/
abbrev product : FVec Ideal S8192x2560 .f32 :=
  Host.dotGeneral dot_S8192x1024_S1024x2560_S8192x2560_1_0_0_1_n_n none (SecondProjection.rows x md n)
    (shapeCast S1024x2560 w shapeCasts_S1x1024x2560_S1024x2560)

/-- The columns after the first 256: queries, keys and values side by side. -/
abbrev attention : FVec Ideal S8192x2304 .f32 :=
  extractStridedSlice S8192x2304 ![0, 256] (product x md n w) slices_S8192x2560_S8192x2304_0_256

/-- The Fourier part, rounded to bf16. -/
abbrev fourier : FVec Ideal S8192x256 .bf16 :=
  truncf .bf16 (extractStridedSlice S8192x256 ![0, 0] (product x md n w) slices_S8192x2560_S8192x256_0_0) bitsLt_bf16_f32

/-- The queries, rounded to bf16. -/
abbrev queries : FVec Ideal S8192x768 .bf16 :=
  truncf .bf16 (extractStridedSlice S8192x768 ![0, 0] (attention x md n w) slices_S8192x2304_S8192x768_0_0) bitsLt_bf16_f32

/-- The keys. -/
abbrev keys : FVec Ideal S8192x768 .f32 :=
  extractStridedSlice S8192x768 ![0, 768] (attention x md n w) slices_S8192x2304_S8192x768_0_768

/-- The values. -/
abbrev values : FVec Ideal S8192x768 .f32 :=
  extractStridedSlice S8192x768 ![0, 1536] (attention x md n w) slices_S8192x2304_S8192x768_0_1536

end Cert.FirstProjection

namespace Cert.Kernel4Ideal.Point

open Idealize.ShloMosaic Idealize.ShloMosaic.TcCoe Idealize.SL.Sem
open Idealize.ShloMosaic.Pipeline (Dat)
open Cert.Kernel4Ideal Cert.Kernel4Ideal.Gen Cert.FirstProjection

variable (m : (ℓ : Loc nD τ sig) → Buf (Elt Ideal) ℓ)

/-- Where each window's block sits at a grid point. -/
theorem place : ∀ t : Fin cfg0.N, win0_0.index t = ![t.val, 0] ∧ win0_1.index t = ![0, 0] ∧ win0_2.index t = ![0, 0, 0]
    ∧ win0_3.index t = ![0, 0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The arrays `x`, the modulation, the norm's weights and the projection's, as launched. -/
abbrev args (c : Dev nD) {β : Type} (f : FVec Ideal S8192x1024 .f32 → FVec Ideal S3x6x1x1024 .f32 → FVec Ideal S1024 .f32
    → FVec Ideal S1x1024x2560 .f32 → β) : β :=
  f (m ((c : Thread nD τ).loc main_arg0)) (m ((c : Thread nD τ).loc main_arg1)) (m ((c : Thread nD τ).loc main_arg2))
    (m ((c : Thread nD τ).loc main_arg3))

/-- One element of the Fourier part's block. -/
theorem fourier_at (c : Dev nD) (t : Fin cfg0.N) (y) :
    out0_5 (iblk m c 0 t) (iblk m c 1 t) (iblk m c 2 t) (iblk m c 3 t) (iblk m c 4 t) y
      = args m c fourier (((cfg0.win 5).blk t).view.emb y) := by
  frame_out
  pointwise [k0_pay3, k0_pay4]
  blk_point [iblk, V, place t]

/-- One element of the queries' block. -/
theorem queries_at (c : Dev nD) (t : Fin cfg0.N) (y) :
    out0_6 (iblk m c 0 t) (iblk m c 1 t) (iblk m c 2 t) (iblk m c 3 t) (iblk m c 4 t) y
      = args m c queries (((cfg0.win 6).blk t).view.emb y) := by
  frame_out
  pointwise [k0_pay3, k0_pay5]
  blk_point [iblk, V, place t]

/-- One element of the keys' block. -/
theorem keys_at (c : Dev nD) (t : Fin cfg0.N) (y) :
    out0_7 (iblk m c 0 t) (iblk m c 1 t) (iblk m c 2 t) (iblk m c 3 t) (iblk m c 4 t) y
      = args m c keys (((cfg0.win 7).blk t).view.emb y) := by
  frame_out
  pointwise [k0_pay1, k0_pay3, k0_pay6]
  blk_point [iblk, V, place t]

/-- One element of the values' block. -/
theorem values_at (c : Dev nD) (t : Fin cfg0.N) (y) :
    out0_8 (iblk m c 0 t) (iblk m c 1 t) (iblk m c 2 t) (iblk m c 3 t) (iblk m c 4 t) y
      = args m c values (((cfg0.win 8).blk t).view.emb y) := by
  frame_out
  pointwise [k0_pay2, k0_pay3, k0_pay6]
  blk_point [iblk, V, place t]

/-- The four result arrays after the run. -/
theorem fourier_array (c : Dev nD) : (dats m 0 c).arrAt 5 (cfgs 0).N = args m c fourier := by
  refine (dats m 0 c).arrAt_eq_of_covers 5 _ (by decide +kernel) fun t _ y => ?_
  blk_simp
  rw [after0_5]
  exact fourier_at m c t y

theorem queries_array (c : Dev nD) : (dats m 0 c).arrAt 6 (cfgs 0).N = args m c queries := by
  refine (dats m 0 c).arrAt_eq_of_covers 6 _ (by decide +kernel) fun t _ y => ?_
  blk_simp
  rw [after0_6]
  exact queries_at m c t y

theorem keys_array (c : Dev nD) : (dats m 0 c).arrAt 7 (cfgs 0).N = args m c keys := by
  refine (dats m 0 c).arrAt_eq_of_covers 7 _ (by decide +kernel) fun t _ y => ?_
  blk_simp
  rw [after0_7]
  exact keys_at m c t y

theorem values_array (c : Dev nD) : (dats m 0 c).arrAt 8 (cfgs 0).N = args m c values := by
  refine (dats m 0 c).arrAt_eq_of_covers 8 _ (by decide +kernel) fun t _ y => ?_
  blk_simp
  rw [after0_8]
  exact values_at m c t y

end Cert.Kernel4Ideal.Point

namespace Cert.FirstProjection

open Idealize.ShloMosaic Idealize.ShloMosaic.TcCoe Idealize.SL.Sem

/-- Kernel and reference end with the same four arrays. -/
theorem same_results : Cert.algebraic_Kernel4Ideal_Reference4Ideal := by
  pair_intro
  · run_from Cert.Kernel4Ideal.Gen.run_main m g
  · run_from Cert.Reference4Ideal.Value.run m' g'
    · exact (Cert.Kernel4Ideal.Point.fourier_array m c).symm
    · exact (Cert.Kernel4Ideal.Point.queries_array m c).symm
    · exact (Cert.Kernel4Ideal.Point.keys_array m c).symm
    · exact (Cert.Kernel4Ideal.Point.values_array m c).symm

end Cert.FirstProjection

end
-- ==== Proof.Modulation.lean ====
/-
  The modulation from the conditioning vectors (`Kernel5`): each grid point makes 1536 columns of one layer's shifts,
  scales and gates.  The array after the run is the reference's.
-/
module

public import proofs.«01_k».proof.Proof.Activation
public import proofs.«01_k».proof.Proof.Gen.Kernel5Ideal.Value
public import proofs.«01_k».proof.Proof.Gen.Reference5Ideal.Run
public import Idealize.ShloMosaic.Lib.Pipeline.ValueKit
public import Idealize.ShloMosaic.Lib.Claim
public import proofs.«01_k».proof.Defs

@[expose] public section

set_option maxRecDepth 16384

noncomputable section

namespace Cert.Modulation

open Idealize.ShloMosaic Idealize.ShloMosaic.TcCoe Idealize.SL.Sem
open Cert.Reference5Ideal Cert.Reference5Ideal.Gen

/-- The conditioning vectors in eight rows: the context's, the two samples', and five rows of zeros. -/
def vectors (s : FVec Ideal S2x1024 .f32) (x : FVec Ideal S1024 .f32) : FVec Ideal S8x1024 .f32 :=
  concatenate S8x1024 0 [⟨S1x1024, broadcastInDim S1x1024 ![1] bcast_S1024_S1x1024_1 x⟩, ⟨S2x1024, s⟩,
    ⟨S5x1024, broadcastInDim S5x1024 ![] bcast_S_S5x1024 (constant S_ .f32 0x00000000#32)⟩]
    concatenates_S1x1024_S2x1024_S5x1024_S8x1024_d0

/-- Their gated values, `v / (1 + exp (-v))`. -/
def gated (v : FVec Ideal S8x1024 .f32) : FVec Ideal S8x1024 .f32 :=
  mulf v (Host.divf (broadcastInDim S8x1024 ![] bcast_S_S8x1024 (constant S_ .f32 0x3F800000#32))
    (addf (broadcastInDim S8x1024 ![] bcast_S_S8x1024 (constant S_ .f32 0x3F800000#32)) (Host.exp (Host.negf v))))

/-- The two layers' products with the weights, plus the biases. -/
def result (v : FVec Ideal S8x1024 .f32) (w : FVec Ideal S2x1024x6144 .f32) (b : FVec Ideal S2x6144 .f32) :
    FVec Ideal S2x8x6144 .f32 :=
  concatenate S2x8x6144 0
    [⟨S1x8x6144, broadcastInDim S1x8x6144 ![1, 2] bcast_S8x6144_S1x8x6144_1_2
      (addf (Host.dotGeneral dot_S8x1024_S1024x6144_S8x6144_1_0_0_1_n_n none (gated v)
          (shapeCast S1024x6144 (extractStridedSlice S1x1024x6144 ![0, 0, 0] w slices_S2x1024x6144_S1x1024x6144_0_0_0)
            shapeCasts_S1x1024x6144_S1024x6144))
        (broadcastInDim S8x6144 ![0, 1] bcast_S1x6144_S8x6144_0_1 (broadcastInDim S1x6144 ![1] bcast_S6144_S1x6144_1
          (shapeCast S6144 (extractStridedSlice S1x6144 ![0, 0] b slices_S2x6144_S1x6144_0_0) shapeCasts_S1x6144_S6144))))⟩,
     ⟨S1x8x6144, broadcastInDim S1x8x6144 ![1, 2] bcast_S8x6144_S1x8x6144_1_2
      (addf (Host.dotGeneral dot_S8x1024_S1024x6144_S8x6144_1_0_0_1_n_n none (gated v)
          (shapeCast S1024x6144 (extractStridedSlice S1x1024x6144 ![1, 0, 0] w slices_S2x1024x6144_S1x1024x6144_1_0_0)
            shapeCasts_S1x1024x6144_S1024x6144))
        (broadcastInDim S8x6144 ![0, 1] bcast_S1x6144_S8x6144_0_1 (broadcastInDim S1x6144 ![1] bcast_S6144_S1x6144_1
          (shapeCast S6144 (extractStridedSlice S1x6144 ![1, 0] b slices_S2x6144_S1x6144_1_0) shapeCasts_S1x6144_S6144))))⟩]
    concatenates_S1x8x6144_S1x8x6144_S2x8x6144_d0

/-- One element of the result, of layer `z 0`, row `z 1` and column `z 2`. -/
theorem result_at (v : FVec Ideal S8x1024 .f32) (w : FVec Ideal S2x1024x6144 .f32) (b : FVec Ideal S2x6144 .f32)
    (z : S2x8x6144.Idx) : result v w b z
      = (∑ x, v (ix2 (z 1) x) * Ideal.div 1 (1 + Ideal.exp (-v (ix2 (z 1) x))) * w (ix3 (z 0) x (z 2))) + b (ix2 (z 0) (z 2)) := by
  have hz : (z 0).val = 0 ∨ (z 0).val = 1 := by
    have h : (z 0).val < 2 := (z 0).isLt
    omega
  pointwise [result, gated]
  rcases hz with h | h
  · rw [dif_pos (by omega), show z 0 = (0 : Fin 2) from Fin.ext h]
  · rw [dif_neg (by omega), show z 0 = (1 : Fin 2) from Fin.ext h]

end Cert.Modulation

namespace Cert.Kernel5Ideal.Point

open Idealize.ShloMosaic Idealize.ShloMosaic.TcCoe Idealize.SL.Sem
open Idealize.ShloMosaic.Pipeline (Dat)
open Cert.Kernel5Ideal Cert.Kernel5Ideal.Gen Cert.Modulation

variable (m : (ℓ : Loc nD τ sig) → Buf (Elt Ideal) ℓ)

/-- Where the blocks sit: point `4 l + j` is on layer `l`, columns from `1536 j`. -/
theorem place : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

/-- The vectors and the result of the run's arguments. -/
abbrev rows (c : Dev nD) := vectors (m ((c : Thread nD τ).loc main_arg0)) (m ((c : Thread nD τ).loc main_arg1))

/-- The kernel's array of vectors, before its grid. -/
theorem rows_eq (c : Dev nD) : V m c main_v2 = rows m c := by
  unfold V
  after_results_simp
  rfl

/-- One element of a point's block. -/
theorem point (c : Dev nD) (t : Fin cfg0.N) (y) :
    out0_3 (iblk m c 0 t) (iblk m c 1 t) (iblk m c 2 t) y
      = result (rows m c) (m ((c : Thread nD τ).loc main_arg2)) (m ((c : Thread nD τ).loc main_arg3))
          (((cfg0.win 3).blk t).view.emb y) := by
  have hv := rows_eq m c
  generalize rows m c = v at *
  have h0 : ∀ x, iblk m c 0 t (ix2 (y 1) x) = v (ix2 (((cfg0.win 3).blk t).view.emb y 1) x) := by
    intro x
    unfold iblk
    rw [hv]
    blk_point [place t]
  have h1 : ∀ x, iblk m c 1 t (ix3 0 x (y 2)) = m ((c : Thread nD τ).loc main_arg2)
      (ix3 (((cfg0.win 3).blk t).view.emb y 0) x (((cfg0.win 3).blk t).view.emb y 2)) := by
    intro x
    unfold iblk
    blk_point [V, place t]
  have h2 : iblk m c 2 t (ix3 0 0 (y 2)) = m ((c : Thread nD τ).loc main_arg3)
      (ix2 (((cfg0.win 3).blk t).view.emb y 0) (((cfg0.win 3).blk t).view.emb y 2)) := by
    unfold iblk
    blk_point [V, place t]
  refine Eq.trans ?_ (result_at v _ _ _).symm
  frame_out
  pointwise [k0_pay1]
  refine congrArg₂ (· + ·) (Finset.sum_congr rfl fun x _ => ?_) h2
  rw [h0, h1, Cert.Activation.factor]

/-- The array after the run. -/
theorem array (c : Dev nD) : (dats m 0 c).arrAt 3 (cfgs 0).N
    = result (rows m c) (m ((c : Thread nD τ).loc main_arg2)) (m ((c : Thread nD τ).loc main_arg3)) := by
  refine (dats m 0 c).arrAt_eq_of_covers 3 _ (by decide +kernel) fun t _ y => ?_
  blk_simp
  rw [after0_3]
  exact point m c t y

end Cert.Kernel5Ideal.Point

namespace Cert.Modulation

open Idealize.ShloMosaic Idealize.ShloMosaic.TcCoe Idealize.SL.Sem

/-- Kernel and reference end with the same array. -/
theorem same_results : Cert.algebraic_Kernel5Ideal_Reference5Ideal := by
  intro m g m' g' _ hagree
  refine ⟨fun c => result (Cert.Kernel5Ideal.Point.rows m c) (m ((c : Thread Cert.Kernel5Ideal.nD Cert.Kernel5Ideal.τ).loc Cert.Kernel5Ideal.main_arg2))
    (m ((c : Thread Cert.Kernel5Ideal.nD Cert.Kernel5Ideal.τ).loc Cert.Kernel5Ideal.main_arg3)), ?_, ?_⟩
  · refine (θ_run _ _ _).mono (fun r h c => ?_) (Cert.Kernel5Ideal.Value.run_blocks m g)
    exact ⟨(h c).1.trans (Cert.Kernel5Ideal.Point.array m c), (h c).2⟩
  · refine (θ_run _ _ _).mono (fun r h c => ?_) (Cert.Reference5Ideal.Value.run m' g')
    obtain ⟨a0, a1, a2, a3⟩ := hagree c
    refine ⟨(h c).1.trans ?_, (h c).2⟩
    beta_reduce
    unfold result gated Cert.Kernel5Ideal.Point.rows vectors
    rw [← a0, ← a1, ← a2, ← a3]

end Cert.Modulation

end
-- ==== Proof.Softmax.lean ====
/-
  The softmax over extended reals: when the scores are real numbers, weights that are divided by their sum and then
  multiplied by values give the same as the weighted sum of the values divided by the sum of the weights.
-/
module

public import Idealize.ShloMosaic.PureOps.Ideal

@[expose] public section

noncomputable section

namespace Cert.Softmax

open Idealize.ShloMosaic

/-- An extended real that is a real number. -/
def IsReal (x : EReal) : Prop := ∃ r : ℝ, x = r

/-- What is smaller than `⊤` in absolute value is a real number. -/
theorem real_of_abs {x : EReal} (h : max x (-x) < ⊤) : IsReal x := by
  induction x with
  | bot => simp at h
  | top => simp at h
  | coe r => exact ⟨r, rfl⟩

theorem IsReal.mul {x y : EReal} : IsReal x → IsReal y → IsReal (x * y)
  | ⟨a, ha⟩, ⟨b, hb⟩ => ⟨a * b, by rw [ha, hb, EReal.coe_mul]⟩

theorem coe_sum {ι : Type} (t : Finset ι) (f : ι → ℝ) : ∑ i ∈ t, (f i : EReal) = ((∑ i ∈ t, f i : ℝ) : EReal) := by
  classical
  induction t using Finset.induction_on with
  | empty => simp
  | insert i t hi ih => rw [Finset.sum_insert hi, Finset.sum_insert hi, ih, EReal.coe_add]

theorem IsReal.sum {ι : Type} (t : Finset ι) {f : ι → EReal} (h : ∀ i, IsReal (f i)) : IsReal (∑ i ∈ t, f i) := by
  choose g hg using h
  exact ⟨∑ i ∈ t, g i, by rw [← coe_sum]; exact Finset.sum_congr rfl fun i _ => hg i⟩

/-- A factor that is a real number and not negative goes into a sum, whatever the terms. -/
theorem sum_mul {ι : Type} (t : Finset ι) (f : ι → EReal) {c : ℝ} (hc : 0 ≤ c) :
    (∑ i ∈ t, f i) * (c : EReal) = ∑ i ∈ t, f i * (c : EReal) := by
  classical
  induction t using Finset.induction_on with
  | empty => simp
  | insert i t hi ih =>
    rw [Finset.sum_insert hi, Finset.sum_insert hi, ← ih]
    exact EReal.right_distrib_of_nonneg_of_ne_top (EReal.coe_nonneg.2 hc) (EReal.coe_ne_top c) _ _

/-- The unnormalised weight of each score: the exponential of its distance to the largest. -/
def weight {n : ℕ} (s : Fin n → EReal) (j : Fin n) : EReal := Ideal.exp (s j - Finset.univ.fold max ⊥ s)

/-- The mean of the values under the weights. -/
def mean {n : ℕ} (s v : Fin n → EReal) : EReal := ∑ j, v j * Ideal.div (weight s j) (∑ i, weight s i)

/-- Dividing once, after the sum. -/
theorem mean_eq {n : ℕ} (hn : 0 < n) {s : Fin n → EReal} (hs : ∀ j, IsReal (s j)) (v : Fin n → EReal) :
    Ideal.div (∑ j, weight s j * v j) (∑ j, weight s j) = mean s v := by
  haveI : Nonempty (Fin n) := ⟨⟨0, hn⟩⟩
  obtain ⟨i, -, hi⟩ := Finset.exists_mem_eq_sup (Finset.univ : Finset (Fin n)) Finset.univ_nonempty s
  have hmax : Finset.univ.fold max ⊥ s = s i := hi
  choose r hr using hs
  have hw : ∀ j, weight s j = ((Real.exp (r j - r i) : ℝ) : EReal) := fun j => by
    unfold weight
    rw [hmax, hr j, hr i, ← EReal.coe_sub, Ideal.exp_coe]
  have hpos : 0 < ∑ j, Real.exp (r j - r i) := Finset.sum_pos (fun j _ => Real.exp_pos _) Finset.univ_nonempty
  have hsum : ∑ j, weight s j = ((∑ j, Real.exp (r j - r i) : ℝ) : EReal) := by
    rw [← coe_sum]; exact Finset.sum_congr rfl fun j _ => hw j
  unfold mean
  rw [hsum, Ideal.div_coe hpos.ne', sum_mul _ _ (one_div_nonneg.2 hpos.le)]
  refine Finset.sum_congr rfl fun j _ => ?_
  rw [Ideal.div_coe hpos.ne', mul_comm (weight s j), mul_assoc]

end Cert.Softmax

end
-- ==== Proof.ContextReference.lean ====
/-
  The reference of the context attention (`Reference6`) at one element: the mean of a head's values under the softmax of
  the query's scores.
-/
module

public import proofs.«01_k».proof.Proof.Softmax
public import proofs.«01_k».proof.Proof.Gen.Reference6Ideal.Run
public import Idealize.ShloMosaic.Lib.Pointwise

@[expose] public section

set_option maxRecDepth 16384

noncomputable section

namespace Cert.ContextAttention

open Idealize.ShloMosaic Idealize.ShloMosaic.TcCoe Idealize.SL.Sem
open Cert.Reference6Ideal Cert.Reference6Ideal.Gen

/-! ## The reference's arrays -/

section arrays

variable (q : FVec Ideal S8192x768 .bf16) (k v : FVec Ideal S8192x768 .f32) (s w : FVec Ideal S32x12x256x256 .f32)

/-- The scores of every head: queries against keys, over eight. -/
def scores : FVec Ideal S32x12x256x256 .f32 :=
  mulf (Host.dotGeneral dot_S32x256x12x64_S32x256x12x64_S32x12x256x256_3_3_1_1_02_02 none
      (shapeCast _ (extf .f32 q bitsLt_bf16_f32) shapeCasts_S8192x768_S32x256x12x64) (shapeCast _ k shapeCasts_S8192x768_S32x256x12x64))
    (broadcastInDim S32x12x256x256 ![] bcast_S_S32x12x256x256 (constant S_ .f32 0x3E000000#32))

/-- The largest score of each query. -/
def largest : FVec Ideal S32x12x256 .f32 :=
  maximumf (broadcastInDim S32x12x256 ![] bcast_S_S32x12x256 (constant S_ .f32 0xFF800000#32))
    (Host.reduce FloatOps.maximumf s (constant S_ .f32 0xFF800000#32) reducesTo_S32x12x256x256_S32x12x256_d3 h_S_)

/-- The weights before they are divided by their sum. -/
def weights : FVec Ideal S32x12x256x256 .f32 :=
  Host.exp (subf s (broadcastInDim S32x12x256x256 ![0, 1, 2, 3] bcast_S32x12x256x1_S32x12x256x256_0_1_2_3
    (broadcastInDim S32x12x256x1 ![0, 1, 2] bcast_S32x12x256_S32x12x256x1_0_1_2 (largest s))))

/-- The sum of each query's weights. -/
def total : FVec Ideal S32x12x256 .f32 :=
  Host.reduceAdd w (constant S_ .f32 0x00000000#32) reducesTo_S32x12x256x256_S32x12x256_d3 h_S_

/-- The weights divided by their sum. -/
def shares : FVec Ideal S32x12x256x256 .f32 :=
  Host.divf w (broadcastInDim S32x12x256x256 ![0, 1, 2, 3] bcast_S32x12x256x1_S32x12x256x256_0_1_2_3
    (broadcastInDim S32x12x256x1 ![0, 1, 2] bcast_S32x12x256_S32x12x256x1_0_1_2 (total w)))

/-- The values of every head under given shares, the heads side by side. -/
def means : FVec Ideal S8192x768 .bf16 :=
  truncf .bf16 (shapeCast S8192x768 (transpose S32x256x12x64 [0, 3, 1, 2]
    (Host.dotGeneral dot_S32x256x12x64_S32x12x256x256_S32x12x64x256_1_3_3_2_02_01 none
      (shapeCast _ v shapeCasts_S8192x768_S32x256x12x64) w)
    transposes_S32x12x64x256_S32x256x12x64_0_3_1_2) shapeCasts_S32x256x12x64_S8192x768) bitsLt_bf16_f32

/-- What the reference returns. -/
def result : FVec Ideal S8192x768 .bf16 := means v (shares (weights (scores q k)))

end arrays

/-! ## Their elements -/

theorem eighth_bits : Ideal.ofBits .f32 0x3E000000#32 = ((1 / 8 : ℝ) : EReal) := by
  simp [Ideal.ofBits, Ideal.ieee, -EReal.coe_mul]; norm_num

theorem bottom_bits : Ideal.ofBits .f32 0xFF800000#32 = ⊥ := by simp [Ideal.ofBits, Ideal.ieee]

/-- Sequence `b` has rows `256·b` to `256·b + 255`, head `h` has columns `64·h` to `64·h + 63`. -/
def score (q : FVec Ideal S8192x768 .bf16) (k : FVec Ideal S8192x768 .f32) (b : Fin 32) (h : Fin 12) (i j : Fin 256) : EReal :=
  (∑ d : Fin 64, q (ix2 (⟨b.val * 256 + i.val, by omega⟩ : Fin 8192) (⟨h.val * 64 + d.val, by omega⟩ : Fin 768))
    * k (ix2 (⟨b.val * 256 + j.val, by omega⟩ : Fin 8192) (⟨h.val * 64 + d.val, by omega⟩ : Fin 768))) * ((1 / 8 : ℝ) : EReal)

variable (q : FVec Ideal S8192x768 .bf16) (k v : FVec Ideal S8192x768 .f32) (s w : FVec Ideal S32x12x256x256 .f32)
  (b : Fin 32) (h : Fin 12) (i j : Fin 256)

theorem scores_at : scores q k (ix4 b h i j) = score q k b h i j := by
  unfold score
  rw [← eighth_bits]
  unfold scores
  pointwise []

theorem reduced_at : Host.reduce FloatOps.maximumf s (constant S_ .f32 0xFF800000#32) reducesTo_S32x12x256x256_S32x12x256_d3 h_S_ (ix3 b h i)
    = Finset.univ.fold max (Ideal.ofBits .f32 0xFF800000#32) fun x => s (ix4 b h i x) := by
  pointwise []

theorem floor_at (z : FVec Ideal S32x12x256 .f32) :
    maximumf (broadcastInDim S32x12x256 ![] bcast_S_S32x12x256 (constant S_ .f32 0xFF800000#32)) z (ix3 b h i)
      = max (Ideal.ofBits .f32 0xFF800000#32) (z (ix3 b h i)) := by
  pointwise []

theorem largest_at : largest s (ix3 b h i) = Finset.univ.fold max ⊥ fun x => s (ix4 b h i x) := by
  unfold largest
  rw [floor_at, reduced_at, bottom_bits, max_eq_right bot_le]

theorem spread_at (z : FVec Ideal S32x12x256 .f32) :
    broadcastInDim S32x12x256x256 ![0, 1, 2, 3] bcast_S32x12x256x1_S32x12x256x256_0_1_2_3
      (broadcastInDim S32x12x256x1 ![0, 1, 2] bcast_S32x12x256_S32x12x256x1_0_1_2 z) (ix4 b h i j) = z (ix3 b h i) := by
  pointwise []

theorem weights_at : weights s (ix4 b h i j) = Softmax.weight (fun x => s (ix4 b h i x)) j := by
  unfold Softmax.weight
  rw [← largest_at, ← spread_at b h i j (largest s)]
  rfl

theorem total_at : total w (ix3 b h i) = ∑ x, w (ix4 b h i x) := by
  unfold total
  pointwise []

theorem shares_at : shares w (ix4 b h i j) = Ideal.div (w (ix4 b h i j)) (∑ x, w (ix4 b h i x)) := by
  rw [← total_at, ← spread_at b h i j (total w)]
  rfl

theorem means_at (r : Fin 8192) (n : Fin 768) :
    means v w (ix2 r n) = ∑ x : Fin 256, v (ix2 (⟨r.val / 256 * 256 + x.val, by omega⟩ : Fin 8192) n)
      * w (ix4 (⟨r.val / 256, by omega⟩ : Fin 32) (⟨n.val / 64, by omega⟩ : Fin 12) (⟨r.val % 256, by omega⟩ : Fin 256) x) := by
  unfold means
  pointwise []

/-- The reference's result at row `r` and column `n`. -/
theorem result_at (r : Fin 8192) (n : Fin 768) :
    result q k v (ix2 r n)
      = Softmax.mean (score q k (⟨r.val / 256, by omega⟩ : Fin 32) (⟨n.val / 64, by omega⟩ : Fin 12) (⟨r.val % 256, by omega⟩ : Fin 256))
        fun x => v (ix2 (⟨r.val / 256 * 256 + x.val, by omega⟩ : Fin 8192) n) := by
  unfold result Softmax.mean
  rw [means_at]
  refine Finset.sum_congr rfl fun x _ => ?_
  rw [shares_at]
  simp only [weights_at, scores_at]

end Cert.ContextAttention

end
-- ==== Proof.ContextAttention.lean ====
/-
  The attention over the context (`Kernel6`): a grid point takes one sequence, 128 columns (two heads) at a time.  It
  masks the queries to one head, appends ones to that head's values, and divides the weighted values by the weighted
  ones. The result array after the run is the reference's.
-/
module

public import proofs.«01_k».proof.Defs
public import proofs.«01_k».proof.Proof.ContextReference
public import proofs.«01_k».proof.Proof.ExpertsRouting
public import proofs.«01_k».proof.Proof.Gen.Pre_finite
public import proofs.«01_k».proof.Proof.Gen.Kernel6Ideal.Value
public import Idealize.ShloMosaic.Lib.Pointwise
public import Idealize.ShloMosaic.Lib.ReduceAll
public import Idealize.ShloMosaic.Lib.Pipeline.ValueKit

@[expose] public section

set_option maxRecDepth 16384

noncomputable section

namespace Cert.Kernel6Ideal.Point

open Idealize.ShloMosaic Idealize.ShloMosaic.TcCoe Idealize.SL.Sem
open Idealize.ShloMosaic.Pipeline (Dat)
open Cert.Kernel6Ideal Cert.Kernel6Ideal.Gen
open Cert.Softmax (IsReal)

/-! ## Two heads -/

section heads

variable (q : Vec Ideal S256x128 .bf16) (k v : Vec Ideal S256x128 .f32)

/-- What is stored for the first two heads. -/
abbrev pair : Vec Ideal S256x128 .bf16 := k0_pay10 (F := Ideal) (k0_pay4 q k) (k0_pay5 q k) v

/-- A lane is in the first half if it is below 64. -/
theorem low : ∀ l : Fin 128, IntOp.cmpi .slt (BitVec.ofNat 32 l.val) 64#32 = if l.val < 64 then 1#1 else 0#1 := by decide +kernel

theorem pick_low {l : Fin 128} (h : l.val < 64) (a b : EReal) :
    Scalar.select (IntOp.cmpi .slt (BitVec.ofNat 32 l.val) 64#32) a b = a := by
  rw [low, if_pos h]; rfl

theorem pick_high {l : Fin 128} (h : ¬ l.val < 64) (a b : EReal) :
    Scalar.select (IntOp.cmpi .slt (BitVec.ofNat 32 l.val) 64#32) a b = b := by
  rw [low, if_neg h]; rfl

/-- The score of query `i` and key `j` in the head that lane `l` belongs to. -/
def pairScore (l : Fin 128) (i j : Fin 256) : EReal :=
  (∑ d : Fin 64, q (ix2 i (⟨l.val / 64 * 64 + d.val, by omega⟩ : Fin 128)) * k (ix2 j (⟨l.val / 64 * 64 + d.val, by omega⟩ : Fin 128)))
    * ((1 / 8 : ℝ) : EReal)

theorem low_score {l : Fin 128} (h : l.val < 64) (i j : Fin 256) : k0_pay4 (F := Ideal) q k (ix2 i j) = pairScore q k l i j := by
  unfold pairScore
  rw [← Cert.ContextAttention.eighth_bits]
  pointwise [k0_pay4, k0_pay3, k0_pay2]
  refine congrArg (· * _) ?_
  refine (Fin.sum_univ_add (a := 64) (b := 64) _).trans ?_
  refine (congrArg₂ (· + ·) (Finset.sum_congr rfl fun d _ => ?_) (Finset.sum_eq_zero fun d _ =>
    pick_high (l := Fin.natAdd 64 d) (by show ¬ 64 + d.val < 64; omega) _ _)).trans (add_zero _)
  refine (pick_low (l := Fin.castAdd 64 d) d.isLt _ _).trans ?_
  have e : (Fin.castAdd 64 d : Fin 128) = ⟨l.val / 64 * 64 + d.val, by omega⟩ := Fin.ext (by show d.val = _; dsimp only; omega)
  rw [e]

theorem high_score {l : Fin 128} (h : ¬ l.val < 64) (i j : Fin 256) : k0_pay5 (F := Ideal) q k (ix2 i j) = pairScore q k l i j := by
  unfold pairScore
  rw [← Cert.ContextAttention.eighth_bits]
  pointwise [k0_pay5, k0_pay3, k0_pay2]
  refine congrArg (· * _) ?_
  refine (Fin.sum_univ_add (a := 64) (b := 64) _).trans ?_
  refine (congrArg₂ (· + ·) (Finset.sum_eq_zero fun d _ => pick_low (l := Fin.castAdd 64 d) d.isLt _ _)
    (Finset.sum_congr rfl fun d _ => ?_)).trans (zero_add _)
  refine (pick_high (l := Fin.natAdd 64 d) (by show ¬ 64 + d.val < 64; omega) _ _).trans ?_
  have e : (Fin.natAdd 64 d : Fin 128) = ⟨l.val / 64 * 64 + d.val, by omega⟩ := Fin.ext (by show 64 + d.val = _; dsimp only; omega)
  rw [e]

theorem real_score (hq : ∀ y, IsReal (q y)) (hk : ∀ y, IsReal (k y)) (l : Fin 128) (i j : Fin 256) : IsReal (pairScore q k l i j) :=
  (Softmax.IsReal.sum _ fun d => (hq _).mul (hk _)).mul ⟨_, rfl⟩

/-- One element of what is stored: the quotient of weighted values and weights is the mean. -/
theorem pair_at (hq : ∀ y, IsReal (q y)) (hk : ∀ y, IsReal (k y)) (i : Fin 256) (l : Fin 128) :
    pair q k v (ix2 i l) = Softmax.mean (pairScore q k l i) fun j => v (ix2 j l) := by
  rw [← Softmax.mean_eq (by decide) (real_score q k hq hk l i)]
  have hl := l.isLt
  by_cases h : l.val < 64
  · have r : ¬ (l.val + 128 - 64) % 128 < 64 := by omega
    have w : (fun j => k0_pay4 (F := Ideal) q k (ix2 i j)) = pairScore q k l i := funext fun j => low_score q k h i j
    rw [← w]
    unfold Softmax.weight
    rw [← Cert.ContextAttention.bottom_bits]
    unfold pair
    generalize k0_pay4 (F := Ideal) q k = s
    generalize k0_pay5 (F := Ideal) q k = s'
    pointwise [k0_pay10]
    refine (pick_low h _ _).trans ?_
    refine congrArg₂ Ideal.div (Finset.sum_congr rfl fun x _ => ?_) (Finset.sum_congr rfl fun x _ => ?_)
    · rw [pick_low h]
    · rw [pick_high (l := ⟨(l.val + 128 - 64) % 128, by omega⟩) r, mul_one]
  · have r : (l.val + 128 - 64) % 128 < 64 := by omega
    have w : (fun j => k0_pay5 (F := Ideal) q k (ix2 i j)) = pairScore q k l i := funext fun j => high_score q k h i j
    rw [← w]
    unfold Softmax.weight
    rw [← Cert.ContextAttention.bottom_bits]
    unfold pair
    generalize k0_pay4 (F := Ideal) q k = s
    generalize k0_pay5 (F := Ideal) q k = s'
    pointwise [k0_pay10]
    refine (pick_high h _ _).trans ?_
    refine congrArg₂ Ideal.div (Finset.sum_congr rfl fun x _ => ?_) (Finset.sum_congr rfl fun x _ => ?_)
    · rw [pick_high h]
    · rw [pick_low (l := ⟨(l.val + 128 - 64) % 128, by omega⟩) r, mul_one]

end heads

/-! ## A sequence -/

section sequence

variable (x0 : Vec Ideal S256x768 .bf16) (x1 x2 : Vec Ideal S256x768 .f32)

/-- The score of query `i` and key `j` in the head that column `n` belongs to. -/
def blockScore (n : Fin 768) (i j : Fin 256) : EReal :=
  (∑ d : Fin 64, x0 (ix2 i (⟨n.val / 64 * 64 + d.val, by omega⟩ : Fin 768)) * x1 (ix2 j (⟨n.val / 64 * 64 + d.val, by omega⟩ : Fin 768)))
    * ((1 / 8 : ℝ) : EReal)

/-- The mean that stands at row `i` and column `n` of the result's block. -/
def blockMean (y : S256x768.Idx) : EReal := Softmax.mean (blockScore x0 x1 (y 1) (y 0)) fun j => x2 (ix2 j (y 1))

/-- Columns `o` to `o + 127` of the block. -/
theorem columns (o : ℕ) (ho : o % 64 = 0) (inb : ∀ a, ![0, o] a + S256x128.size a ≤ S256x768.size a)
    (hq : ∀ y, IsReal (x0 y)) (hk : ∀ y, IsReal (x1 y)) (y : S256x128.Idx) :
    pair (View.ld x0 (Rect.unit (s := S256x768) ![0, o] S256x128.size inb)) (View.ld x1 (Rect.unit (s := S256x768) ![0, o] S256x128.size inb))
        (View.ld x2 (Rect.unit (s := S256x768) ![0, o] S256x128.size inb)) y
      = blockMean x0 x1 x2 ((Rect.unit (s := S256x768) ![0, o] S256x128.size inb).emb y) := by
  have hin : o + 128 ≤ 768 := inb 1
  have e : ∀ (i : Fin 256) (l : Fin 128), (Rect.unit (s := S256x768) ![0, o] S256x128.size inb).emb (ix2 i l)
      = ix2 i (⟨o + l.val, by omega⟩ : Fin 768) := fun i l => by
    funext a
    apply Fin.ext
    match a with
    | ⟨0, _⟩ => show 0 + 1 * i.val = i.val; omega
    | ⟨1, _⟩ => show o + 1 * l.val = o + l.val; omega
  have hy : y = ix2 (y 0) (y 1) := eq_ix2 y
  generalize y 0 = i at hy
  generalize y 1 = l at hy
  have hl : l.val < 128 := l.isLt
  subst hy
  refine (pair_at _ _ _ (fun _ => hq _) (fun _ => hk _) i l).trans ?_
  refine Eq.trans ?_ (congrArg (blockMean x0 x1 x2) (e i l)).symm
  show _ = Softmax.mean (blockScore x0 x1 (⟨o + l.val, by omega⟩ : Fin 768) i) fun j => x2 (ix2 j (⟨o + l.val, by omega⟩ : Fin 768))
  refine congrArg₂ Softmax.mean (funext fun j => ?_) (funext fun j => congrArg x2 (e j l))
  unfold pairScore blockScore
  refine congrArg (· * _) (Finset.sum_congr rfl fun d _ => ?_)
  have n : (⟨o + (l.val / 64 * 64 + d.val), by omega⟩ : Fin 768) = ⟨(o + l.val) / 64 * 64 + d.val, by omega⟩ :=
    Fin.ext (by dsimp only; omega)
  refine congrArg₂ (· * ·) ((congrArg x0 (e i _)).trans ?_) ((congrArg x1 (e j _)).trans ?_)
  · exact congrArg (fun c => x0 (ix2 i c)) n
  · exact congrArg (fun c => x1 (ix2 j c)) n

/-- A grid point stores the means of its sequence: each of its six stores is `pair` of its columns. -/
theorem stored (hq : ∀ y, IsReal (x0 y)) (hk : ∀ y, IsReal (x1 y)) (y : S256x768.Idx) :
    out0_3 (F := Ideal) x0 x1 x2 y = blockMean x0 x1 x2 y := by
  unfold out0_3
  refine View.canon_apply_of_pieces (Val := Elt Ideal) (e := .bf16) (blockMean x0 x1 x2) _ ?_ y (cover0_3 _ _ _ _ _ _ y)
  simp only [List.mem_cons, List.not_mem_nil, or_false, forall_eq_or_imp, forall_eq]
  refine ⟨?_, ?_, ?_, ?_, ?_, ?_⟩
  · exact columns x0 x1 x2 640 (by decide) _ hq hk
  · exact columns x0 x1 x2 512 (by decide) _ hq hk
  · exact columns x0 x1 x2 384 (by decide) _ hq hk
  · exact columns x0 x1 x2 256 (by decide) _ hq hk
  · exact columns x0 x1 x2 128 (by decide) _ hq hk
  · exact columns x0 x1 x2 0 (by decide) _ hq hk

end sequence

/-! ## The array -/

variable (m : (ℓ : Loc nD τ sig) → Buf (Elt Ideal) ℓ)

/-- Grid point `t` reads and stores the rows of sequence `t`. -/
theorem place : ∀ t : Fin cfg0.N, win0_0.index t = ![t.val, 0] ∧ win0_1.index t = ![t.val, 0]
    ∧ win0_2.index t = ![t.val, 0] ∧ win0_3.index t = ![t.val, 0] :=
  (by decide +kernel : ∀ t : Fin grid0.N, _)

/-- The queries, keys and values of the run. -/
abbrev queries (c : Dev nD) := m ((c : Thread nD τ).loc main_arg0)
abbrev keys (c : Dev nD) := m ((c : Thread nD τ).loc main_arg1)
abbrev values (c : Dev nD) := m ((c : Thread nD τ).loc main_arg2)

theorem query_block (c : Dev nD) (t : Fin cfg0.N) (i : Fin 256) (n : Fin 768) :
    iblk m c 0 t (ix2 i n) = queries m c (ix2 (⟨t.val * 256 + i.val, by have : t.val < 32 := t.isLt; omega⟩ : Fin 8192) n) := by
  unfold iblk
  blk_point [V, place t]

theorem key_block (c : Dev nD) (t : Fin cfg0.N) (i : Fin 256) (n : Fin 768) :
    iblk m c 1 t (ix2 i n) = keys m c (ix2 (⟨t.val * 256 + i.val, by have : t.val < 32 := t.isLt; omega⟩ : Fin 8192) n) := by
  unfold iblk
  blk_point [V, place t]

theorem value_block (c : Dev nD) (t : Fin cfg0.N) (i : Fin 256) (n : Fin 768) :
    iblk m c 2 t (ix2 i n) = values m c (ix2 (⟨t.val * 256 + i.val, by have : t.val < 32 := t.isLt; omega⟩ : Fin 8192) n) := by
  unfold iblk
  blk_point [V, place t]

theorem result_block (t : Fin cfg0.N) (i : Fin 256) (n : Fin 768) :
    ((cfg0.win 3).blk t).view.emb (ix2 i n) = ix2 (⟨t.val * 256 + i.val, by have : t.val < 32 := t.isLt; omega⟩ : Fin 8192) n := by
  blk_point [place t]

/-- One element of a point's block. -/
theorem point (c : Dev nD) (hq : ∀ y, IsReal (queries m c y)) (hk : ∀ y, IsReal (keys m c y)) (t : Fin cfg0.N) (y) :
    out0_3 (iblk m c 0 t) (iblk m c 1 t) (iblk m c 2 t) y
      = Cert.ContextAttention.result (queries m c) (keys m c) (values m c) (((cfg0.win 3).blk t).view.emb y) := by
  have ht : t.val < 32 := t.isLt
  have hy : y = ix2 (y 0) (y 1) := eq_ix2 y
  generalize y 0 = i at hy
  generalize y 1 = n at hy
  have hi : i.val < 256 := i.isLt
  have hn : n.val < 768 := n.isLt
  subst hy
  refine (stored _ _ _ (fun y => ?_) (fun y => ?_) _).trans ?_
  · rw [eq_ix2 y]
    exact (query_block m c t (y 0) (y 1)) ▸ hq _
  · rw [eq_ix2 y]
    exact (key_block m c t (y 0) (y 1)) ▸ hk _
  refine Eq.trans ?_ ((congrArg _ (result_block t i n)).trans (Cert.ContextAttention.result_at _ _ _ _ _)).symm
  show Softmax.mean (blockScore (iblk m c 0 t) (iblk m c 1 t) n i) (fun j => iblk m c 2 t (ix2 j n)) = _
  have row : ∀ x : Fin 256, (⟨t.val * 256 + x.val, by omega⟩ : Fin 8192) = ⟨(t.val * 256 + i.val) / 256 * 256 + x.val, by omega⟩ :=
    fun x => Fin.ext (by dsimp only; omega)
  refine congrArg₂ Softmax.mean (funext fun j => ?_) (funext fun j => (value_block m c t j n).trans ?_)
  · unfold blockScore Cert.ContextAttention.score
    refine congrArg (· * _) (Finset.sum_congr rfl fun d _ => ?_)
    refine congrArg₂ (· * ·) ((query_block m c t i _).trans ?_) ((key_block m c t j _).trans ?_)
    · refine congrArg (queries m c) (congrArg₂ ix2 (Fin.ext ?_) rfl)
      show t.val * 256 + i.val = (t.val * 256 + i.val) / 256 * 256 + (t.val * 256 + i.val) % 256
      omega
    · exact congrArg (fun r => keys m c (ix2 r _)) (row j)
  · exact congrArg (fun r => values m c (ix2 r n)) (row j)

/-- The array after the run. -/
theorem array (c : Dev nD) (hq : ∀ y, IsReal (queries m c y)) (hk : ∀ y, IsReal (keys m c y)) :
    (dats m 0 c).arrAt 3 (cfgs 0).N = Cert.ContextAttention.result (queries m c) (keys m c) (values m c) := by
  refine (dats m 0 c).arrAt_eq_of_covers 3 _ (by decide +kernel) fun t _ y => ?_
  blk_simp
  rw [after0_3]
  exact point m c hq hk t y

end Cert.Kernel6Ideal.Point

namespace Cert.ContextAttention

open Idealize.ShloMosaic Idealize.ShloMosaic.TcCoe Idealize.SL.Sem
open Cert.Softmax (IsReal)

theorem top_bits : Ideal.ofBits .f32 0x7F800000#32 = ⊤ := by simp [Ideal.ofBits, Ideal.ieee]

/-- What the precondition says: each query and each key is a real number. -/
theorem real_of {q k v} (H : Cert.Pre_finite.fn (F := Ideal) q k v = fun _ => 1#1) : (∀ y, IsReal (q y)) ∧ ∀ y, IsReal (k y) := by
  have t := congrFun H ix0
  dsimp only [Cert.Pre_finite.fn] at t
  obtain ⟨tq, tk⟩ := Cert.Experts.both t
  refine ⟨fun y => ?_, fun y => ?_⟩
  · have u := Host.reduce_andi_all _ _ _ _ _ tq y
    pointwise at u
    rw [top_bits] at u
    exact Softmax.real_of_abs (Cert.Experts.holds u)
  · have u := Host.reduce_andi_all _ _ _ _ _ tk y
    pointwise at u
    rw [top_bits] at u
    exact Softmax.real_of_abs (Cert.Experts.holds u)

/-- Kernel and reference end with the same array. -/
theorem same_results : Cert.algebraic_Kernel6Ideal_Reference6Ideal_pre_finite := by
  intro m g m' g' hpre hagree
  refine ⟨fun c => result (Cert.Kernel6Ideal.Point.queries m c) (Cert.Kernel6Ideal.Point.keys m c) (Cert.Kernel6Ideal.Point.values m c), ?_, ?_⟩
  · refine (θ_run _ _ _).mono (fun r h c => ?_) (Cert.Kernel6Ideal.Value.run_blocks m g)
    exact ⟨(h c).1.trans (Cert.Kernel6Ideal.Point.array m c (real_of (hpre c)).1 (real_of (hpre c)).2), (h c).2⟩
  · refine (θ_run _ _ _).mono (fun r h c => ?_) (Cert.Reference6Ideal.Value.run m' g')
    obtain ⟨a0, a1, a2⟩ := hagree c
    refine ⟨(h c).1.trans ?_, (h c).2⟩
    beta_reduce
    unfold result means shares total weights largest scores Cert.Kernel6Ideal.Point.queries Cert.Kernel6Ideal.Point.keys Cert.Kernel6Ideal.Point.values
    rw [← a0, ← a1, ← a2]

end Cert.ContextAttention

end
-- ==== Proof.SecondOutput.lean ====
/-
  The second layer's output projection with the residual and the norm after it (`Kernel7`): each grid point takes 512
  rows.  The stream and its normalised, modulated rows are the reference's.
-/
module

public import proofs.«01_k».proof.Proof.FeedForward
public import Idealize.ShloMosaic.Lib.StableHlo.ReadAt
public import proofs.«01_k».proof.Proof.Gen.Kernel7Ideal.Value
public import proofs.«01_k».proof.Proof.Gen.Reference7Ideal.Run

@[expose] public section

set_option maxRecDepth 16384

noncomputable section

namespace Cert.Kernel7Ideal.Point

open Idealize.ShloMosaic Idealize.ShloMosaic.TcCoe Idealize.SL.Sem
open Idealize.ShloMosaic.Pipeline (Dat)
open Cert.Kernel7Ideal Cert.Kernel7Ideal.Gen Cert.FeedForward

variable (m : (ℓ : Loc nD τ sig) → Buf (Elt Ideal) ℓ)

/-- Where the blocks sit at a grid point: the rows move with the point, the rest stays. -/
theorem place : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![0, 0] ∧ win0_6.index t = ![0, 0, 0]
    ∧ win0_7.index t = ![0, 0, 0] ∧ win0_11.index t = ![t.val, 0] ∧ win0_12.index t = ![t.val, 0] :=
  (by decide +kernel : ∀ t : Fin grid0.N, _)

/-- The reference's stream after the mixers, of the run's arguments. -/
abbrev stream (c : Dev nD) := mixed (m ((c : Thread nD τ).loc main_arg0)) (m ((c : Thread nD τ).loc main_arg1))
  (m ((c : Thread nD τ).loc main_arg2)) (m ((c : Thread nD τ).loc main_arg3)) (m ((c : Thread nD τ).loc main_arg5))

/-- The reference's normalised rows. -/
abbrev normed (c : Dev nD) : FVec Ideal S8192x1024 .bf16 :=
  truncf .bf16 (rows (stream m c) (m ((c : Thread nD τ).loc main_arg3)) (m ((c : Thread nD τ).loc main_arg4))) bitsLt_bf16_f32

/-- The block's stream: the two mixers' columns are multiplied apart, and the sums added. -/
abbrev blockStream (c : Dev nD) (t : Fin cfg0.N) : FVec Ideal S512x1024 .f32 :=
  k0_pay6 (iblk m c 0 t) (View.ld (iblk m c 4 t) (Rect.unit ![0, 0] ![256, 1024] inb_S1024x1024_S256x1024_0_0))
    (iblk m c 1 t) (View.ld (iblk m c 4 t) (Rect.unit ![256, 0] ![768, 1024] inb_S1024x1024_S768x1024_256_0))
    (iblk m c 2 t) (iblk m c 3 t)

/-- The block's normalised rows. -/
abbrev blockRows (c : Dev nD) (t : Fin cfg0.N) : FVec Ideal S512x1024 .bf16 :=
  k0_pay12 (blockStream m c t) (k0_pay7 (iblk m c 5 t)) (k0_pay8 (iblk m c 6 t)) (k0_pay9 (iblk m c 7 t))
    (k0_pay10 (iblk m c 0 t) (View.ld (iblk m c 4 t) (Rect.unit ![0, 0] ![256, 1024] inb_S1024x1024_S256x1024_0_0))
      (iblk m c 1 t) (View.ld (iblk m c 4 t) (Rect.unit ![256, 0] ![768, 1024] inb_S1024x1024_S768x1024_256_0))
      (iblk m c 2 t) (iblk m c 3 t))

/-! The small operands before the grid, as elements of the arguments: the gate, the shift, the scale, the weights of the
    projection and of the norm. -/

theorem gate_eq (c : Dev nD) : V m c main_v1 = fun i => m ((c : Thread nD τ).loc main_arg3) (ix4 0 2 0 (i 2)) := by
  funext i
  unfold V
  simp only [hostOps0, hostOps0_1, hostOps0_2, hostOps0_3, hostOps0_4, hostOps0_5, hostOps0_6, List.flatten_cons,
    List.flatten_nil, List.append_nil, List.cons_append, List.nil_append]
  after_reads_at

theorem shift_eq (c : Dev nD) : V m c main_v3 = fun i => m ((c : Thread nD τ).loc main_arg3) (ix4 0 3 0 (i 2)) := by
  funext i
  unfold V
  simp only [hostOps0, hostOps0_1, hostOps0_2, hostOps0_3, hostOps0_4, hostOps0_5, hostOps0_6, List.flatten_cons,
    List.flatten_nil, List.append_nil, List.cons_append, List.nil_append]
  after_reads_at

theorem scale_eq (c : Dev nD) : V m c main_v5 = fun i => m ((c : Thread nD τ).loc main_arg3) (ix4 0 4 0 (i 2)) := by
  funext i
  unfold V
  simp only [hostOps0, hostOps0_1, hostOps0_2, hostOps0_3, hostOps0_4, hostOps0_5, hostOps0_6, List.flatten_cons,
    List.flatten_nil, List.append_nil, List.cons_append, List.nil_append]
  after_reads_at

theorem proj_eq (c : Dev nD) : V m c main_v7 = fun i => m ((c : Thread nD τ).loc main_arg5) (ix3 0 (i 0) (i 1)) := by
  funext i
  unfold V
  simp only [hostOps0, hostOps0_1, hostOps0_2, hostOps0_3, hostOps0_4, hostOps0_5, hostOps0_6, List.flatten_cons,
    List.flatten_nil, List.append_nil, List.cons_append, List.nil_append]
  after_reads_at

theorem norm_eq (c : Dev nD) : V m c main_v16 = fun i => m ((c : Thread nD τ).loc main_arg4) (ix1 (i 1)) := by
  funext i
  unfold V
  simp only [hostOps0, hostOps0_1, hostOps0_2, hostOps0_3, hostOps0_4, hostOps0_5, hostOps0_6, List.flatten_cons,
    List.flatten_nil, List.append_nil, List.cons_append, List.nil_append]
  after_reads_at

/-- The block's stream is the reference's at the block's place. -/
theorem stream_at (c : Dev nD) (t : Fin cfg0.N) (y) : blockStream m c t y = stream m c (((cfg0.win 11).blk t).view.emb y) := by
  unfold blockStream stream
  pointwise [k0_pay6, mixed]
  blk_point [iblk, V, place t]
  · rw [gate_eq]; blk_point [place t]
  · rw [proj_eq]; blk_point [place t]
  · rw [proj_eq]; blk_point [place t]

/-- So are its normalised rows. -/
theorem rows_at (c : Dev nD) (t : Fin cfg0.N) (y) : blockRows m c t y = normed m c (((cfg0.win 12).blk t).view.emb y) := by
  have hx := stream_at m c t
  unfold blockRows normed
  unfold blockStream at *
  pointwise [k0_pay12, k0_pay11, k0_pay7, k0_pay8, k0_pay9, k0_pay10, rows]
  simp only [hx]
  clear hx
  blk_point [iblk, V, place t]
  · rw [norm_eq]; blk_point [place t]
  · rw [scale_eq]; blk_point [place t]
  · rw [shift_eq]; blk_point [place t]

/-- The stream's array after the run. -/
theorem stream_array (c : Dev nD) : (dats m 0 c).arrAt 11 (cfgs 0).N = stream m c := by
  refine (dats m 0 c).arrAt_eq_of_covers 11 _ (by decide +kernel) fun t _ y => ?_
  blk_simp
  rw [after0_11]
  refine Eq.trans ?_ (stream_at m c t y)
  frame_out
  rfl

/-- The normalised rows' array after the run. -/
theorem rows_array (c : Dev nD) : (dats m 0 c).arrAt 12 (cfgs 0).N = normed m c := by
  refine (dats m 0 c).arrAt_eq_of_covers 12 _ (by decide +kernel) fun t _ y => ?_
  blk_simp
  rw [after0_12]
  refine Eq.trans ?_ (rows_at m c t y)
  frame_out
  unfold k0_pay23 k0_pay24 k0_pay25 k0_pay26 k0_pay27
  frame_out
  rfl

end Cert.Kernel7Ideal.Point

namespace Cert.SecondOutput

open Idealize.ShloMosaic Idealize.ShloMosaic.TcCoe Idealize.SL.Sem

/-- Kernel and reference end with the same stream and the same normalised rows. -/
theorem same_results : Cert.algebraic_Kernel7Ideal_Reference7Ideal := by
  intro m g m' g' _ hagree
  refine ⟨Cert.Kernel7Ideal.Point.stream m, Cert.Kernel7Ideal.Point.normed m, ?_, ?_⟩
  · refine (θ_run _ _ _).mono (fun r h c => ?_) (Cert.Kernel7Ideal.Value.run_blocks m g)
    obtain ⟨h0, h1, -, -, -, -, ha⟩ := h c
    exact ⟨h0.trans (Cert.Kernel7Ideal.Point.stream_array m c), h1.trans (Cert.Kernel7Ideal.Point.rows_array m c), ha⟩
  · refine (θ_run _ _ _).mono (fun r h c => ?_) (Cert.Reference7Ideal.Value.run m' g')
    obtain ⟨h0, h1, ha⟩ := h c
    obtain ⟨a0, a1, a2, a3, a4, a5, -⟩ := hagree c
    refine ⟨h0.trans ?_, h1.trans ?_, ha⟩
    · unfold Cert.Kernel7Ideal.Point.stream Cert.FeedForward.mixed
      rw [← a0, ← a1, ← a2, ← a3, ← a5]
      rfl
    · unfold Cert.Kernel7Ideal.Point.normed Cert.Kernel7Ideal.Point.stream Cert.FeedForward.rows Cert.FeedForward.mixed
      rw [← a0, ← a1, ← a2, ← a3, ← a4, ← a5]
      rfl

end Cert.SecondOutput

end
-- ==== Proof.lean ====
/-
  The certificate's claims, collected from the modules that prove them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Pre_routed
public import proofs.«01_k».proof.Proof.Gen.Pre_finite
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.ExpertsBits
public import proofs.«01_k».proof.Proof.ExpertsResult
public import proofs.«01_k».proof.Proof.FeedForward
public import proofs.«01_k».proof.Proof.SecondProjection
public import proofs.«01_k».proof.Proof.FirstProjection
public import proofs.«01_k».proof.Proof.Modulation
public import proofs.«01_k».proof.Proof.ContextAttention
public import proofs.«01_k».proof.Proof.SecondOutput
public import Idealize.ShloMosaic.Lib.Claim
public import Idealize.ShloMosaic.Adequacy
public import Idealize.ShloMosaic.Init

@[expose] public section

noncomputable section

namespace Cert.Proof

open Idealize.ShloMosaic Idealize.SL.Sem

/-- The experts' call over the extended reals ends, from any memory, with its arguments unchanged and every counter at
zero. -/
theorem frame_kernelIdeal : Cert.quiescent_KernelIdeal := fun m ρ _ => Cert.Experts.frame (F := Ideal) m ρ

/-- The reference ends, from any memory, with its arguments unchanged. -/
theorem frame_reference : Cert.quiescent_ReferenceIdeal := fun m g _ =>
  (θ_run Cert.ReferenceIdeal.defs _ _).mono (fun r h => ⟨fun c => (h c).2,
    Idealize.ShloMosaic.sem_eq_zero_of_no_sems (by decide) r.2⟩) (Cert.ReferenceIdeal.Value.run (F := Ideal) m g)

/-- The reference ends, from any memory, with its arguments unchanged. -/
theorem frame_reference2 : Cert.quiescent_Reference2Ideal := fun m g _ =>
  (θ_run Cert.Reference2Ideal.defs _ _).mono (fun r h => ⟨fun c => (h c).2,
    Idealize.ShloMosaic.sem_eq_zero_of_no_sems (by decide) r.2⟩) (Cert.Reference2Ideal.Value.run (F := Ideal) m g)

/-- The reference ends, from any memory, with its arguments unchanged. -/
theorem frame_reference3 : Cert.quiescent_Reference3Ideal := fun m g _ =>
  (θ_run Cert.Reference3Ideal.defs _ _).mono (fun r h => ⟨fun c => (h c).2.2,
    Idealize.ShloMosaic.sem_eq_zero_of_no_sems (by decide) r.2⟩) (Cert.Reference3Ideal.Value.run (F := Ideal) m g)

/-- The reference ends, from any memory, with its arguments unchanged. -/
theorem frame_reference4 : Cert.quiescent_Reference4Ideal := fun m g _ =>
  (θ_run Cert.Reference4Ideal.defs _ _).mono (fun r h => ⟨fun c => (h c).2.2.2.2,
    Idealize.ShloMosaic.sem_eq_zero_of_no_sems (by decide) r.2⟩) (Cert.Reference4Ideal.Value.run (F := Ideal) m g)

/-- The reference ends, from any memory, with its arguments unchanged. -/
theorem frame_reference5 : Cert.quiescent_Reference5Ideal := fun m g _ =>
  (θ_run Cert.Reference5Ideal.defs _ _).mono (fun r h => ⟨fun c => (h c).2,
    Idealize.ShloMosaic.sem_eq_zero_of_no_sems (by decide) r.2⟩) (Cert.Reference5Ideal.Value.run (F := Ideal) m g)

/-- The reference ends, from any memory, with its arguments unchanged. -/
theorem frame_reference6 : Cert.quiescent_Reference6Ideal := fun m g _ =>
  (θ_run Cert.Reference6Ideal.defs _ _).mono (fun r h => ⟨fun c => (h c).2,
    Idealize.ShloMosaic.sem_eq_zero_of_no_sems (by decide) r.2⟩) (Cert.Reference6Ideal.Value.run (F := Ideal) m g)

/-- The reference ends, from any memory, with its arguments unchanged. -/
theorem frame_reference7 : Cert.quiescent_Reference7Ideal := fun m g _ =>
  (θ_run Cert.Reference7Ideal.defs _ _).mono (fun r h => ⟨fun c => (h c).2.2,
    Idealize.ShloMosaic.sem_eq_zero_of_no_sems (by decide) r.2⟩) (Cert.Reference7Ideal.Value.run (F := Ideal) m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts,
    Cert.Kernel3Ideal.Gen.facts, Cert.Reference3Ideal.Gen.facts, Cert.Kernel4.Gen.facts, Cert.Kernel4Ideal.Gen.facts,
    Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Pre_routed.Gen.facts,
    Cert.Pre_finite.Gen.facts,
    Cert.Experts.frame_words, frame_kernelIdeal, fun m ρ _ => frame_kernelIdeal m ρ trivial, frame_reference,
    fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ,
    fun m ρ _ => Cert.Kernel6Ideal.Gen.frame m ρ, frame_reference6, fun m ρ _ => frame_reference6 m ρ trivial,
    fun m ρ _ => Cert.Kernel7.Gen.frame m ρ, fun m ρ _ => Cert.Kernel7Ideal.Gen.frame m ρ, frame_reference7,
    trivial, Cert.Experts.same_results, trivial, Cert.FeedForward.same_results, trivial,
    Cert.SecondProjection.same_results, trivial, Cert.FirstProjection.same_results,
    trivial, Cert.Modulation.same_results, trivial, Cert.ContextAttention.same_results, trivial, Cert.SecondOutput.same_results⟩

end Cert.Proof

end
